-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S3x3x48x256 : Shape := ⟨4, ![3, 3, 48, 256]⟩
abbrev S3x3x40x256 : Shape := ⟨4, ![3, 3, 40, 256]⟩
abbrev S3x3x4x3 : Shape := ⟨4, ![3, 3, 4, 3]⟩
abbrev S_ : Shape := ⟨0, ![]⟩
abbrev S128x256 : Shape := ⟨2, ![128, 256]⟩
abbrev S128x512 : Shape := ⟨2, ![128, 512]⟩
abbrev S48x256 : Shape := ⟨2, ![48, 256]⟩
abbrev S40x256 : Shape := ⟨2, ![40, 256]⟩
abbrev S1x1x48x256 : Shape := ⟨4, ![1, 1, 48, 256]⟩
abbrev S1x1x1x1 : Shape := ⟨4, ![1, 1, 1, 1]⟩
abbrev S1x1x40x256 : Shape := ⟨4, ![1, 1, 40, 256]⟩

abbrev nBuf : Space → Nat
  | .hbm => 8
  | .vmem => 32
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S3x3x48x256, .f32⟩
  | .local _ .vmem, ⟨9, _⟩ => ⟨S3x3x40x256, .f32⟩
  | .local _ .vmem, ⟨10, _⟩ => ⟨S3x3x40x256, .f32⟩
  | .local _ .vmem, ⟨11, _⟩ => ⟨S3x3x48x256, .f32⟩
  | .local _ .vmem, ⟨12, _⟩ => ⟨S3x3x40x256, .f32⟩
  | .local _ .vmem, ⟨13, _⟩ => ⟨S3x3x40x256, .f32⟩
  | .local _ .vmem, ⟨14, _⟩ => ⟨S3x3x48x256, .f32⟩
  | .local _ .vmem, ⟨15, _⟩ => ⟨S3x3x40x256, .f32⟩
  | .local _ .vmem, ⟨16, _⟩ => ⟨S3x3x40x256, .f32⟩
  | .local _ .vmem, ⟨17, _⟩ => ⟨S3x3x48x256, .f32⟩
  | .local _ .vmem, ⟨18, _⟩ => ⟨S3x3x40x256, .f32⟩
  | .local _ .vmem, ⟨19, _⟩ => ⟨S3x3x40x256, .f32⟩
  | .local _ .vmem, ⟨20, _⟩ => ⟨S3x3x48x256, .f32⟩
  | .local _ .vmem, ⟨21, _⟩ => ⟨S3x3x40x256, .f32⟩
  | .local _ .vmem, ⟨22, _⟩ => ⟨S3x3x40x256, .f32⟩
  | .local _ .vmem, ⟨23, _⟩ => ⟨S3x3x48x256, .f32⟩
  | .local _ .vmem, ⟨24, _⟩ => ⟨S3x3x40x256, .f32⟩
  | .local _ .vmem, ⟨25, _⟩ => ⟨S3x3x40x256, .f32⟩
  | .local _ .vmem, ⟨26, _⟩ => ⟨S3x3x48x256, .f32⟩
  | .local _ .vmem, ⟨27, _⟩ => ⟨S3x3x40x256, .f32⟩
  | .local _ .vmem, ⟨28, _⟩ => ⟨S3x3x40x256, .f32⟩
  | .local _ .vmem, ⟨29, _⟩ => ⟨S3x3x48x256, .f32⟩
  | .local _ .vmem, ⟨30, _⟩ => ⟨S3x3x40x256, .f32⟩
  | .local _ .vmem, ⟨31, _⟩ => ⟨S3x3x40x256, .f32⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 1 → Bool
  | ⟨0, _⟩ => false
  | _ => false

abbrev dmaSemScoped : Fin 224 → Bool
  | ⟨i, _⟩ => dmaSemScopedAt i

abbrev sig : RefSig :=
  (ofTc nBuf bufTy 1 224 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_scratch15 : Ref sig .tc := ⟨.vmem, 23, rfl⟩
abbrev cc0_scratch16 : Ref sig .tc := ⟨.vmem, 24, rfl⟩
abbrev cc0_scratch17 : Ref sig .tc := ⟨.vmem, 25, rfl⟩
abbrev cc0_scratch18 : Ref sig .tc := ⟨.vmem, 26, rfl⟩
abbrev cc0_scratch19 : Ref sig .tc := ⟨.vmem, 27, rfl⟩
abbrev cc0_scratch20 : Ref sig .tc := ⟨.vmem, 28, rfl⟩
abbrev cc0_scratch21 : Ref sig .tc := ⟨.vmem, 29, rfl⟩
abbrev cc0_scratch22 : Ref sig .tc := ⟨.vmem, 30, rfl⟩
abbrev cc0_scratch23 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v29 : BitVec 32 := Scalar.xori v2 c1_i32_21
  let c1_i32_34 : BitVec 32 := 1#32
  let v30 : BitVec 32 := Scalar.muli v29 c1_i32_34
  let v31 : BitVec 32 := Scalar.addi c0_i32_35 v30
  v31.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_44 : BitVec 32 := 3#32
  let v43 : BitVec 32 := Scalar.xori v2 c3_i32_44
  let c1_i32_57 : BitVec 32 := 1#32
  let v44 : BitVec 32 := Scalar.muli v43 c1_i32_57
  let v45 : BitVec 32 := Scalar.addi c0_i32_58 v44
  v45.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v57 : BitVec 32 := Scalar.xori v2 c4_i32_67
  let c1_i32_79 : BitVec 32 := 1#32
  let v58 : BitVec 32 := Scalar.muli v57 c1_i32_79
  let v59 : BitVec 32 := Scalar.addi c0_i32_80 v58
  v59.toNat
def k0_dev7 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_97 : BitVec 32 := 1#32
  let v84 : BitVec 32 := Scalar.xori v2 c1_i32_97
  let c1_i32_110 : BitVec 32 := 1#32
  let v85 : BitVec 32 := Scalar.muli v84 c1_i32_110
  let v86 : BitVec 32 := Scalar.addi c0_i32_111 v85
  v86.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_120 : BitVec 32 := 3#32
  let v98 : BitVec 32 := Scalar.xori v2 c3_i32_120
  let c1_i32_133 : BitVec 32 := 1#32
  let v99 : BitVec 32 := Scalar.muli v98 c1_i32_133
  let v100 : BitVec 32 := Scalar.addi c0_i32_134 v99
  v100.toNat
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_143 : BitVec 32 := 4#32
  let v112 : BitVec 32 := Scalar.xori v2 c4_i32_143
  let c1_i32_156 : BitVec 32 := 1#32
  let v113 : BitVec 32 := Scalar.muli v112 c1_i32_156
  let v114 : BitVec 32 := Scalar.addi c0_i32_157 v113
  v114.toNat
def k0_dev10 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_174 : BitVec 32 := 1#32
  let v139 : BitVec 32 := Scalar.xori v2 c1_i32_174
  let c1_i32_187 : BitVec 32 := 1#32
  let v140 : BitVec 32 := Scalar.muli v139 c1_i32_187
  let v141 : BitVec 32 := Scalar.addi c0_i32_188 v140
  v141.toNat
def k0_dev11 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_197 : BitVec 32 := 3#32
  let v153 : BitVec 32 := Scalar.xori v2 c3_i32_197
  let c1_i32_210 : BitVec 32 := 1#32
  let v154 : BitVec 32 := Scalar.muli v153 c1_i32_210
  let v155 : BitVec 32 := Scalar.addi c0_i32_211 v154
  v155.toNat
def k0_dev12 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_220 : BitVec 32 := 4#32
  let v167 : BitVec 32 := Scalar.xori v2 c4_i32_220
  let c1_i32_233 : BitVec 32 := 1#32
  let v168 : BitVec 32 := Scalar.muli v167 c1_i32_233
  let v169 : BitVec 32 := Scalar.addi c0_i32_234 v168
  v169.toNat
def k0_dev13 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_251 : BitVec 32 := 1#32
  let v194 : BitVec 32 := Scalar.xori v2 c1_i32_251
  let c1_i32_264 : BitVec 32 := 1#32
  let v195 : BitVec 32 := Scalar.muli v194 c1_i32_264
  let v196 : BitVec 32 := Scalar.addi c0_i32_265 v195
  v196.toNat
def k0_dev14 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_274 : BitVec 32 := 3#32
  let v208 : BitVec 32 := Scalar.xori v2 c3_i32_274
  let c1_i32_287 : BitVec 32 := 1#32
  let v209 : BitVec 32 := Scalar.muli v208 c1_i32_287
  let v210 : BitVec 32 := Scalar.addi c0_i32_288 v209
  v210.toNat
def k0_dev15 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_297 : BitVec 32 := 4#32
  let v222 : BitVec 32 := Scalar.xori v2 c4_i32_297
  let c1_i32_310 : BitVec 32 := 1#32
  let v223 : BitVec 32 := Scalar.muli v222 c1_i32_310
  let v224 : BitVec 32 := Scalar.addi c0_i32_311 v223
  v224.toNat
def k0_dev16 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_358 : BitVec 32 := 3#32
  let v253 : BitVec 32 := Scalar.xori v2 c3_i32_358
  let c1_i32_371 : BitVec 32 := 1#32
  let v254 : BitVec 32 := Scalar.muli v253 c1_i32_371
  let v255 : BitVec 32 := Scalar.addi c0_i32_372 v254
  v255.toNat
def k0_dev17 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_420 : BitVec 32 := 4#32
  let v284 : BitVec 32 := Scalar.xori v2 c4_i32_420
  let c1_i32_433 : BitVec 32 := 1#32
  let v285 : BitVec 32 := Scalar.muli v284 c1_i32_433
  let v286 : BitVec 32 := Scalar.addi c0_i32_434 v285
  v286.toNat
def k0_dev18 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_482 : BitVec 32 := 1#32
  let v315 : BitVec 32 := Scalar.xori v2 c1_i32_482
  let c1_i32_495 : BitVec 32 := 1#32
  let v316 : BitVec 32 := Scalar.muli v315 c1_i32_495
  let v317 : BitVec 32 := Scalar.addi c0_i32_496 v316
  v317.toNat
def k0_dev19 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_544 : BitVec 32 := 3#32
  let v346 : BitVec 32 := Scalar.xori v2 c3_i32_544
  let c1_i32_557 : BitVec 32 := 1#32
  let v347 : BitVec 32 := Scalar.muli v346 c1_i32_557
  let v348 : BitVec 32 := Scalar.addi c0_i32_558 v347
  v348.toNat
def k0_dev20 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_606 : BitVec 32 := 4#32
  let v377 : BitVec 32 := Scalar.xori v2 c4_i32_606
  let c1_i32_619 : BitVec 32 := 1#32
  let v378 : BitVec 32 := Scalar.muli v377 c1_i32_619
  let v379 : BitVec 32 := Scalar.addi c0_i32_620 v378
  v379.toNat
def k0_dev21 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_668 : BitVec 32 := 1#32
  let v408 : BitVec 32 := Scalar.xori v2 c1_i32_668
  let c1_i32_681 : BitVec 32 := 1#32
  let v409 : BitVec 32 := Scalar.muli v408 c1_i32_681
  let v410 : BitVec 32 := Scalar.addi c0_i32_682 v409
  v410.toNat
def k0_dev22 (d0 : Dev nD) : Nat :=
  let c0_i32_744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_730 : BitVec 32 := 3#32
  let v439 : BitVec 32 := Scalar.xori v2 c3_i32_730
  let c1_i32_743 : BitVec 32 := 1#32
  let v440 : BitVec 32 := Scalar.muli v439 c1_i32_743
  let v441 : BitVec 32 := Scalar.addi c0_i32_744 v440
  v441.toNat
def k0_dev23 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_792 : BitVec 32 := 4#32
  let v470 : BitVec 32 := Scalar.xori v2 c4_i32_792
  let c1_i32_805 : BitVec 32 := 1#32
  let v471 : BitVec 32 := Scalar.muli v470 c1_i32_805
  let v472 : BitVec 32 := Scalar.addi c0_i32_806 v471
  v472.toNat
def k0_dev24 (d0 : Dev nD) : Nat :=
  let c0_i32_868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_854 : BitVec 32 := 1#32
  let v501 : BitVec 32 := Scalar.xori v2 c1_i32_854
  let c1_i32_867 : BitVec 32 := 1#32
  let v502 : BitVec 32 := Scalar.muli v501 c1_i32_867
  let v503 : BitVec 32 := Scalar.addi c0_i32_868 v502
  v503.toNat
def k0_dev25 (d0 : Dev nD) : Nat :=
  let c0_i32_930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_916 : BitVec 32 := 3#32
  let v532 : BitVec 32 := Scalar.xori v2 c3_i32_916
  let c1_i32_929 : BitVec 32 := 1#32
  let v533 : BitVec 32 := Scalar.muli v532 c1_i32_929
  let v534 : BitVec 32 := Scalar.addi c0_i32_930 v533
  v534.toNat
def k0_dev26 (d0 : Dev nD) : Nat :=
  let c0_i32_992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_978 : BitVec 32 := 4#32
  let v563 : BitVec 32 := Scalar.xori v2 c4_i32_978
  let c1_i32_991 : BitVec 32 := 1#32
  let v564 : BitVec 32 := Scalar.muli v563 c1_i32_991
  let v565 : BitVec 32 := Scalar.addi c0_i32_992 v564
  v565.toNat
def k0_dev27 (d0 : Dev nD) : Nat :=
  let c0_i32_1054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1040 : BitVec 32 := 1#32
  let v594 : BitVec 32 := Scalar.xori v2 c1_i32_1040
  let c1_i32_1053 : BitVec 32 := 1#32
  let v595 : BitVec 32 := Scalar.muli v594 c1_i32_1053
  let v596 : BitVec 32 := Scalar.addi c0_i32_1054 v595
  v596.toNat
def k0_dev28 (d0 : Dev nD) : Nat :=
  let c0_i32_1115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1101 : BitVec 32 := 4#32
  let v625 : BitVec 32 := Scalar.xori v2 c4_i32_1101
  let c1_i32_1114 : BitVec 32 := 1#32
  let v626 : BitVec 32 := Scalar.muli v625 c1_i32_1114
  let v627 : BitVec 32 := Scalar.addi c0_i32_1115 v626
  v627.toNat
def k0_dev29 (d0 : Dev nD) : Nat :=
  let c0_i32_1177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1163 : BitVec 32 := 1#32
  let v656 : BitVec 32 := Scalar.xori v2 c1_i32_1163
  let c1_i32_1176 : BitVec 32 := 1#32
  let v657 : BitVec 32 := Scalar.muli v656 c1_i32_1176
  let v658 : BitVec 32 := Scalar.addi c0_i32_1177 v657
  v658.toNat
def k0_dev30 (d0 : Dev nD) : Nat :=
  let c0_i32_1239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1225 : BitVec 32 := 3#32
  let v687 : BitVec 32 := Scalar.xori v2 c3_i32_1225
  let c1_i32_1238 : BitVec 32 := 1#32
  let v688 : BitVec 32 := Scalar.muli v687 c1_i32_1238
  let v689 : BitVec 32 := Scalar.addi c0_i32_1239 v688
  v689.toNat
def k0_dev31 (d0 : Dev nD) : Nat :=
  let c0_i32_1301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1287 : BitVec 32 := 4#32
  let v718 : BitVec 32 := Scalar.xori v2 c4_i32_1287
  let c1_i32_1300 : BitVec 32 := 1#32
  let v719 : BitVec 32 := Scalar.muli v718 c1_i32_1300
  let v720 : BitVec 32 := Scalar.addi c0_i32_1301 v719
  v720.toNat
def k0_dev32 (d0 : Dev nD) : Nat :=
  let c0_i32_1363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1349 : BitVec 32 := 1#32
  let v749 : BitVec 32 := Scalar.xori v2 c1_i32_1349
  let c1_i32_1362 : BitVec 32 := 1#32
  let v750 : BitVec 32 := Scalar.muli v749 c1_i32_1362
  let v751 : BitVec 32 := Scalar.addi c0_i32_1363 v750
  v751.toNat
def k0_dev33 (d0 : Dev nD) : Nat :=
  let c0_i32_1425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1411 : BitVec 32 := 3#32
  let v780 : BitVec 32 := Scalar.xori v2 c3_i32_1411
  let c1_i32_1424 : BitVec 32 := 1#32
  let v781 : BitVec 32 := Scalar.muli v780 c1_i32_1424
  let v782 : BitVec 32 := Scalar.addi c0_i32_1425 v781
  v782.toNat
def k0_dev34 (d0 : Dev nD) : Nat :=
  let c0_i32_1487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1473 : BitVec 32 := 4#32
  let v811 : BitVec 32 := Scalar.xori v2 c4_i32_1473
  let c1_i32_1486 : BitVec 32 := 1#32
  let v812 : BitVec 32 := Scalar.muli v811 c1_i32_1486
  let v813 : BitVec 32 := Scalar.addi c0_i32_1487 v812
  v813.toNat
def k0_dev35 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1535 : BitVec 32 := 1#32
  let v842 : BitVec 32 := Scalar.xori v2 c1_i32_1535
  let c1_i32_1548 : BitVec 32 := 1#32
  let v843 : BitVec 32 := Scalar.muli v842 c1_i32_1548
  let v844 : BitVec 32 := Scalar.addi c0_i32_1549 v843
  v844.toNat
def k0_dev36 (d0 : Dev nD) : Nat :=
  let c0_i32_1611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1597 : BitVec 32 := 3#32
  let v873 : BitVec 32 := Scalar.xori v2 c3_i32_1597
  let c1_i32_1610 : BitVec 32 := 1#32
  let v874 : BitVec 32 := Scalar.muli v873 c1_i32_1610
  let v875 : BitVec 32 := Scalar.addi c0_i32_1611 v874
  v875.toNat
def k0_dev37 (d0 : Dev nD) : Nat :=
  let c0_i32_1673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1659 : BitVec 32 := 4#32
  let v904 : BitVec 32 := Scalar.xori v2 c4_i32_1659
  let c1_i32_1672 : BitVec 32 := 1#32
  let v905 : BitVec 32 := Scalar.muli v904 c1_i32_1672
  let v906 : BitVec 32 := Scalar.addi c0_i32_1673 v905
  v906.toNat
def k0_dev38 (d0 : Dev nD) : Nat :=
  let c0_i32_1735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1721 : BitVec 32 := 1#32
  let v935 : BitVec 32 := Scalar.xori v2 c1_i32_1721
  let c1_i32_1734 : BitVec 32 := 1#32
  let v936 : BitVec 32 := Scalar.muli v935 c1_i32_1734
  let v937 : BitVec 32 := Scalar.addi c0_i32_1735 v936
  v937.toNat
def k0_dev39 (d0 : Dev nD) : Nat :=
  let c0_i32_1797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1783 : BitVec 32 := 3#32
  let v966 : BitVec 32 := Scalar.xori v2 c3_i32_1783
  let c1_i32_1796 : BitVec 32 := 1#32
  let v967 : BitVec 32 := Scalar.muli v966 c1_i32_1796
  let v968 : BitVec 32 := Scalar.addi c0_i32_1797 v967
  v968.toNat
def k0_dev40 (d0 : Dev nD) : Nat :=
  let c0_i32_1944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1930 : BitVec 32 := 1#32
  let v1043 : BitVec 32 := Scalar.xori v2 c1_i32_1930
  let c1_i32_1943 : BitVec 32 := 1#32
  let v1044 : BitVec 32 := Scalar.muli v1043 c1_i32_1943
  let v1045 : BitVec 32 := Scalar.addi c0_i32_1944 v1044
  v1045.toNat
def k0_dev41 (d0 : Dev nD) : Nat :=
  let c0_i32_1967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1953 : BitVec 32 := 3#32
  let v1057 : BitVec 32 := Scalar.xori v2 c3_i32_1953
  let c1_i32_1966 : BitVec 32 := 1#32
  let v1058 : BitVec 32 := Scalar.muli v1057 c1_i32_1966
  let v1059 : BitVec 32 := Scalar.addi c0_i32_1967 v1058
  v1059.toNat
def k0_dev42 (d0 : Dev nD) : Nat :=
  let c0_i32_1990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1976 : BitVec 32 := 4#32
  let v1071 : BitVec 32 := Scalar.xori v2 c4_i32_1976
  let c1_i32_1989 : BitVec 32 := 1#32
  let v1072 : BitVec 32 := Scalar.muli v1071 c1_i32_1989
  let v1073 : BitVec 32 := Scalar.addi c0_i32_1990 v1072
  v1073.toNat
def k0_dev43 (d0 : Dev nD) : Nat :=
  let c0_i32_2137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2123 : BitVec 32 := 1#32
  let v1148 : BitVec 32 := Scalar.xori v2 c1_i32_2123
  let c1_i32_2136 : BitVec 32 := 1#32
  let v1149 : BitVec 32 := Scalar.muli v1148 c1_i32_2136
  let v1150 : BitVec 32 := Scalar.addi c0_i32_2137 v1149
  v1150.toNat
def k0_dev44 (d0 : Dev nD) : Nat :=
  let c0_i32_2160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2146 : BitVec 32 := 3#32
  let v1162 : BitVec 32 := Scalar.xori v2 c3_i32_2146
  let c1_i32_2159 : BitVec 32 := 1#32
  let v1163 : BitVec 32 := Scalar.muli v1162 c1_i32_2159
  let v1164 : BitVec 32 := Scalar.addi c0_i32_2160 v1163
  v1164.toNat
def k0_dev45 (d0 : Dev nD) : Nat :=
  let c0_i32_2183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2169 : BitVec 32 := 4#32
  let v1176 : BitVec 32 := Scalar.xori v2 c4_i32_2169
  let c1_i32_2182 : BitVec 32 := 1#32
  let v1177 : BitVec 32 := Scalar.muli v1176 c1_i32_2182
  let v1178 : BitVec 32 := Scalar.addi c0_i32_2183 v1177
  v1178.toNat
def k0_dev46 (d0 : Dev nD) : Nat :=
  let c0_i32_2330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2316 : BitVec 32 := 1#32
  let v1253 : BitVec 32 := Scalar.xori v2 c1_i32_2316
  let c1_i32_2329 : BitVec 32 := 1#32
  let v1254 : BitVec 32 := Scalar.muli v1253 c1_i32_2329
  let v1255 : BitVec 32 := Scalar.addi c0_i32_2330 v1254
  v1255.toNat
def k0_dev47 (d0 : Dev nD) : Nat :=
  let c0_i32_2353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2339 : BitVec 32 := 3#32
  let v1267 : BitVec 32 := Scalar.xori v2 c3_i32_2339
  let c1_i32_2352 : BitVec 32 := 1#32
  let v1268 : BitVec 32 := Scalar.muli v1267 c1_i32_2352
  let v1269 : BitVec 32 := Scalar.addi c0_i32_2353 v1268
  v1269.toNat
def k0_dev48 (d0 : Dev nD) : Nat :=
  let c0_i32_2376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2362 : BitVec 32 := 4#32
  let v1281 : BitVec 32 := Scalar.xori v2 c4_i32_2362
  let c1_i32_2375 : BitVec 32 := 1#32
  let v1282 : BitVec 32 := Scalar.muli v1281 c1_i32_2375
  let v1283 : BitVec 32 := Scalar.addi c0_i32_2376 v1282
  v1283.toNat
def k0_dev49 (d0 : Dev nD) : Nat :=
  let c0_i32_2523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2509 : BitVec 32 := 1#32
  let v1358 : BitVec 32 := Scalar.xori v2 c1_i32_2509
  let c1_i32_2522 : BitVec 32 := 1#32
  let v1359 : BitVec 32 := Scalar.muli v1358 c1_i32_2522
  let v1360 : BitVec 32 := Scalar.addi c0_i32_2523 v1359
  v1360.toNat
def k0_dev50 (d0 : Dev nD) : Nat :=
  let c0_i32_2546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2532 : BitVec 32 := 3#32
  let v1372 : BitVec 32 := Scalar.xori v2 c3_i32_2532
  let c1_i32_2545 : BitVec 32 := 1#32
  let v1373 : BitVec 32 := Scalar.muli v1372 c1_i32_2545
  let v1374 : BitVec 32 := Scalar.addi c0_i32_2546 v1373
  v1374.toNat
def k0_dev51 (d0 : Dev nD) : Nat :=
  let c0_i32_2569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2555 : BitVec 32 := 4#32
  let v1386 : BitVec 32 := Scalar.xori v2 c4_i32_2555
  let c1_i32_2568 : BitVec 32 := 1#32
  let v1387 : BitVec 32 := Scalar.muli v1386 c1_i32_2568
  let v1388 : BitVec 32 := Scalar.addi c0_i32_2569 v1387
  v1388.toNat
def k0_dev52 (d0 : Dev nD) : Nat :=
  let c0_i32_2631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2617 : BitVec 32 := 3#32
  let v1417 : BitVec 32 := Scalar.xori v2 c3_i32_2617
  let c1_i32_2630 : BitVec 32 := 1#32
  let v1418 : BitVec 32 := Scalar.muli v1417 c1_i32_2630
  let v1419 : BitVec 32 := Scalar.addi c0_i32_2631 v1418
  v1419.toNat
def k0_dev53 (d0 : Dev nD) : Nat :=
  let c0_i32_2693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2679 : BitVec 32 := 4#32
  let v1448 : BitVec 32 := Scalar.xori v2 c4_i32_2679
  let c1_i32_2692 : BitVec 32 := 1#32
  let v1449 : BitVec 32 := Scalar.muli v1448 c1_i32_2692
  let v1450 : BitVec 32 := Scalar.addi c0_i32_2693 v1449
  v1450.toNat
def k0_dev54 (d0 : Dev nD) : Nat :=
  let c0_i32_2755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2741 : BitVec 32 := 1#32
  let v1479 : BitVec 32 := Scalar.xori v2 c1_i32_2741
  let c1_i32_2754 : BitVec 32 := 1#32
  let v1480 : BitVec 32 := Scalar.muli v1479 c1_i32_2754
  let v1481 : BitVec 32 := Scalar.addi c0_i32_2755 v1480
  v1481.toNat
def k0_dev55 (d0 : Dev nD) : Nat :=
  let c0_i32_2817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2803 : BitVec 32 := 3#32
  let v1510 : BitVec 32 := Scalar.xori v2 c3_i32_2803
  let c1_i32_2816 : BitVec 32 := 1#32
  let v1511 : BitVec 32 := Scalar.muli v1510 c1_i32_2816
  let v1512 : BitVec 32 := Scalar.addi c0_i32_2817 v1511
  v1512.toNat
def k0_dev56 (d0 : Dev nD) : Nat :=
  let c0_i32_2879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2865 : BitVec 32 := 4#32
  let v1541 : BitVec 32 := Scalar.xori v2 c4_i32_2865
  let c1_i32_2878 : BitVec 32 := 1#32
  let v1542 : BitVec 32 := Scalar.muli v1541 c1_i32_2878
  let v1543 : BitVec 32 := Scalar.addi c0_i32_2879 v1542
  v1543.toNat
def k0_dev57 (d0 : Dev nD) : Nat :=
  let c0_i32_2941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2927 : BitVec 32 := 1#32
  let v1572 : BitVec 32 := Scalar.xori v2 c1_i32_2927
  let c1_i32_2940 : BitVec 32 := 1#32
  let v1573 : BitVec 32 := Scalar.muli v1572 c1_i32_2940
  let v1574 : BitVec 32 := Scalar.addi c0_i32_2941 v1573
  v1574.toNat
def k0_dev58 (d0 : Dev nD) : Nat :=
  let c0_i32_3003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2989 : BitVec 32 := 3#32
  let v1603 : BitVec 32 := Scalar.xori v2 c3_i32_2989
  let c1_i32_3002 : BitVec 32 := 1#32
  let v1604 : BitVec 32 := Scalar.muli v1603 c1_i32_3002
  let v1605 : BitVec 32 := Scalar.addi c0_i32_3003 v1604
  v1605.toNat
def k0_dev59 (d0 : Dev nD) : Nat :=
  let c0_i32_3065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3051 : BitVec 32 := 4#32
  let v1634 : BitVec 32 := Scalar.xori v2 c4_i32_3051
  let c1_i32_3064 : BitVec 32 := 1#32
  let v1635 : BitVec 32 := Scalar.muli v1634 c1_i32_3064
  let v1636 : BitVec 32 := Scalar.addi c0_i32_3065 v1635
  v1636.toNat
def k0_dev60 (d0 : Dev nD) : Nat :=
  let c0_i32_3127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3113 : BitVec 32 := 1#32
  let v1665 : BitVec 32 := Scalar.xori v2 c1_i32_3113
  let c1_i32_3126 : BitVec 32 := 1#32
  let v1666 : BitVec 32 := Scalar.muli v1665 c1_i32_3126
  let v1667 : BitVec 32 := Scalar.addi c0_i32_3127 v1666
  v1667.toNat
def k0_dev61 (d0 : Dev nD) : Nat :=
  let c0_i32_3189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3175 : BitVec 32 := 3#32
  let v1696 : BitVec 32 := Scalar.xori v2 c3_i32_3175
  let c1_i32_3188 : BitVec 32 := 1#32
  let v1697 : BitVec 32 := Scalar.muli v1696 c1_i32_3188
  let v1698 : BitVec 32 := Scalar.addi c0_i32_3189 v1697
  v1698.toNat
def k0_dev62 (d0 : Dev nD) : Nat :=
  let c0_i32_3251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3237 : BitVec 32 := 4#32
  let v1727 : BitVec 32 := Scalar.xori v2 c4_i32_3237
  let c1_i32_3250 : BitVec 32 := 1#32
  let v1728 : BitVec 32 := Scalar.muli v1727 c1_i32_3250
  let v1729 : BitVec 32 := Scalar.addi c0_i32_3251 v1728
  v1729.toNat
def k0_dev63 (d0 : Dev nD) : Nat :=
  let c0_i32_3313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3299 : BitVec 32 := 1#32
  let v1758 : BitVec 32 := Scalar.xori v2 c1_i32_3299
  let c1_i32_3312 : BitVec 32 := 1#32
  let v1759 : BitVec 32 := Scalar.muli v1758 c1_i32_3312
  let v1760 : BitVec 32 := Scalar.addi c0_i32_3313 v1759
  v1760.toNat
def k0_dev64 (d0 : Dev nD) : Nat :=
  let c0_i32_3375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3361 : BitVec 32 := 4#32
  let v1789 : BitVec 32 := Scalar.xori v2 c4_i32_3361
  let c1_i32_3374 : BitVec 32 := 1#32
  let v1790 : BitVec 32 := Scalar.muli v1789 c1_i32_3374
  let v1791 : BitVec 32 := Scalar.addi c0_i32_3375 v1790
  v1791.toNat
def k0_dev65 (d0 : Dev nD) : Nat :=
  let c0_i32_3437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3423 : BitVec 32 := 1#32
  let v1820 : BitVec 32 := Scalar.xori v2 c1_i32_3423
  let c1_i32_3436 : BitVec 32 := 1#32
  let v1821 : BitVec 32 := Scalar.muli v1820 c1_i32_3436
  let v1822 : BitVec 32 := Scalar.addi c0_i32_3437 v1821
  v1822.toNat
def k0_dev66 (d0 : Dev nD) : Nat :=
  let c0_i32_3499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3485 : BitVec 32 := 3#32
  let v1851 : BitVec 32 := Scalar.xori v2 c3_i32_3485
  let c1_i32_3498 : BitVec 32 := 1#32
  let v1852 : BitVec 32 := Scalar.muli v1851 c1_i32_3498
  let v1853 : BitVec 32 := Scalar.addi c0_i32_3499 v1852
  v1853.toNat
def k0_dev67 (d0 : Dev nD) : Nat :=
  let c0_i32_3561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3547 : BitVec 32 := 4#32
  let v1882 : BitVec 32 := Scalar.xori v2 c4_i32_3547
  let c1_i32_3560 : BitVec 32 := 1#32
  let v1883 : BitVec 32 := Scalar.muli v1882 c1_i32_3560
  let v1884 : BitVec 32 := Scalar.addi c0_i32_3561 v1883
  v1884.toNat
def k0_dev68 (d0 : Dev nD) : Nat :=
  let c0_i32_3623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3609 : BitVec 32 := 1#32
  let v1913 : BitVec 32 := Scalar.xori v2 c1_i32_3609
  let c1_i32_3622 : BitVec 32 := 1#32
  let v1914 : BitVec 32 := Scalar.muli v1913 c1_i32_3622
  let v1915 : BitVec 32 := Scalar.addi c0_i32_3623 v1914
  v1915.toNat
def k0_dev69 (d0 : Dev nD) : Nat :=
  let c0_i32_3685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3671 : BitVec 32 := 3#32
  let v1944 : BitVec 32 := Scalar.xori v2 c3_i32_3671
  let c1_i32_3684 : BitVec 32 := 1#32
  let v1945 : BitVec 32 := Scalar.muli v1944 c1_i32_3684
  let v1946 : BitVec 32 := Scalar.addi c0_i32_3685 v1945
  v1946.toNat
def k0_dev70 (d0 : Dev nD) : Nat :=
  let c0_i32_3747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3733 : BitVec 32 := 4#32
  let v1975 : BitVec 32 := Scalar.xori v2 c4_i32_3733
  let c1_i32_3746 : BitVec 32 := 1#32
  let v1976 : BitVec 32 := Scalar.muli v1975 c1_i32_3746
  let v1977 : BitVec 32 := Scalar.addi c0_i32_3747 v1976
  v1977.toNat
def k0_dev71 (d0 : Dev nD) : Nat :=
  let c0_i32_3809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3795 : BitVec 32 := 1#32
  let v2006 : BitVec 32 := Scalar.xori v2 c1_i32_3795
  let c1_i32_3808 : BitVec 32 := 1#32
  let v2007 : BitVec 32 := Scalar.muli v2006 c1_i32_3808
  let v2008 : BitVec 32 := Scalar.addi c0_i32_3809 v2007
  v2008.toNat
def k0_dev72 (d0 : Dev nD) : Nat :=
  let c0_i32_3871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3857 : BitVec 32 := 3#32
  let v2037 : BitVec 32 := Scalar.xori v2 c3_i32_3857
  let c1_i32_3870 : BitVec 32 := 1#32
  let v2038 : BitVec 32 := Scalar.muli v2037 c1_i32_3870
  let v2039 : BitVec 32 := Scalar.addi c0_i32_3871 v2038
  v2039.toNat
def k0_dev73 (d0 : Dev nD) : Nat :=
  let c0_i32_3933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3919 : BitVec 32 := 4#32
  let v2068 : BitVec 32 := Scalar.xori v2 c4_i32_3919
  let c1_i32_3932 : BitVec 32 := 1#32
  let v2069 : BitVec 32 := Scalar.muli v2068 c1_i32_3932
  let v2070 : BitVec 32 := Scalar.addi c0_i32_3933 v2069
  v2070.toNat
def k0_dev74 (d0 : Dev nD) : Nat :=
  let c0_i32_3995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3981 : BitVec 32 := 1#32
  let v2099 : BitVec 32 := Scalar.xori v2 c1_i32_3981
  let c1_i32_3994 : BitVec 32 := 1#32
  let v2100 : BitVec 32 := Scalar.muli v2099 c1_i32_3994
  let v2101 : BitVec 32 := Scalar.addi c0_i32_3995 v2100
  v2101.toNat
def k0_dev75 (d0 : Dev nD) : Nat :=
  let c0_i32_4057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4043 : BitVec 32 := 3#32
  let v2130 : BitVec 32 := Scalar.xori v2 c3_i32_4043
  let c1_i32_4056 : BitVec 32 := 1#32
  let v2131 : BitVec 32 := Scalar.muli v2130 c1_i32_4056
  let v2132 : BitVec 32 := Scalar.addi c0_i32_4057 v2131
  v2132.toNat
def k0_dev76 (d0 : Dev nD) : Nat :=
  let c0_i32_4204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4190 : BitVec 32 := 1#32
  let v2207 : BitVec 32 := Scalar.xori v2 c1_i32_4190
  let c1_i32_4203 : BitVec 32 := 1#32
  let v2208 : BitVec 32 := Scalar.muli v2207 c1_i32_4203
  let v2209 : BitVec 32 := Scalar.addi c0_i32_4204 v2208
  v2209.toNat
def k0_dev77 (d0 : Dev nD) : Nat :=
  let c0_i32_4227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4213 : BitVec 32 := 3#32
  let v2221 : BitVec 32 := Scalar.xori v2 c3_i32_4213
  let c1_i32_4226 : BitVec 32 := 1#32
  let v2222 : BitVec 32 := Scalar.muli v2221 c1_i32_4226
  let v2223 : BitVec 32 := Scalar.addi c0_i32_4227 v2222
  v2223.toNat
def k0_dev78 (d0 : Dev nD) : Nat :=
  let c0_i32_4250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4236 : BitVec 32 := 4#32
  let v2235 : BitVec 32 := Scalar.xori v2 c4_i32_4236
  let c1_i32_4249 : BitVec 32 := 1#32
  let v2236 : BitVec 32 := Scalar.muli v2235 c1_i32_4249
  let v2237 : BitVec 32 := Scalar.addi c0_i32_4250 v2236
  v2237.toNat
def k0_dev79 (d0 : Dev nD) : Nat :=
  let c0_i32_4397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4383 : BitVec 32 := 1#32
  let v2312 : BitVec 32 := Scalar.xori v2 c1_i32_4383
  let c1_i32_4396 : BitVec 32 := 1#32
  let v2313 : BitVec 32 := Scalar.muli v2312 c1_i32_4396
  let v2314 : BitVec 32 := Scalar.addi c0_i32_4397 v2313
  v2314.toNat
def k0_dev80 (d0 : Dev nD) : Nat :=
  let c0_i32_4420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4406 : BitVec 32 := 3#32
  let v2326 : BitVec 32 := Scalar.xori v2 c3_i32_4406
  let c1_i32_4419 : BitVec 32 := 1#32
  let v2327 : BitVec 32 := Scalar.muli v2326 c1_i32_4419
  let v2328 : BitVec 32 := Scalar.addi c0_i32_4420 v2327
  v2328.toNat
def k0_dev81 (d0 : Dev nD) : Nat :=
  let c0_i32_4443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4429 : BitVec 32 := 4#32
  let v2340 : BitVec 32 := Scalar.xori v2 c4_i32_4429
  let c1_i32_4442 : BitVec 32 := 1#32
  let v2341 : BitVec 32 := Scalar.muli v2340 c1_i32_4442
  let v2342 : BitVec 32 := Scalar.addi c0_i32_4443 v2341
  v2342.toNat
def k0_dev82 (d0 : Dev nD) : Nat :=
  let c0_i32_4590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4576 : BitVec 32 := 1#32
  let v2417 : BitVec 32 := Scalar.xori v2 c1_i32_4576
  let c1_i32_4589 : BitVec 32 := 1#32
  let v2418 : BitVec 32 := Scalar.muli v2417 c1_i32_4589
  let v2419 : BitVec 32 := Scalar.addi c0_i32_4590 v2418
  v2419.toNat
def k0_dev83 (d0 : Dev nD) : Nat :=
  let c0_i32_4613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4599 : BitVec 32 := 3#32
  let v2431 : BitVec 32 := Scalar.xori v2 c3_i32_4599
  let c1_i32_4612 : BitVec 32 := 1#32
  let v2432 : BitVec 32 := Scalar.muli v2431 c1_i32_4612
  let v2433 : BitVec 32 := Scalar.addi c0_i32_4613 v2432
  v2433.toNat
def k0_dev84 (d0 : Dev nD) : Nat :=
  let c0_i32_4636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4622 : BitVec 32 := 4#32
  let v2445 : BitVec 32 := Scalar.xori v2 c4_i32_4622
  let c1_i32_4635 : BitVec 32 := 1#32
  let v2446 : BitVec 32 := Scalar.muli v2445 c1_i32_4635
  let v2447 : BitVec 32 := Scalar.addi c0_i32_4636 v2446
  v2447.toNat
def k0_dev85 (d0 : Dev nD) : Nat :=
  let c0_i32_4783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4769 : BitVec 32 := 1#32
  let v2522 : BitVec 32 := Scalar.xori v2 c1_i32_4769
  let c1_i32_4782 : BitVec 32 := 1#32
  let v2523 : BitVec 32 := Scalar.muli v2522 c1_i32_4782
  let v2524 : BitVec 32 := Scalar.addi c0_i32_4783 v2523
  v2524.toNat
def k0_dev86 (d0 : Dev nD) : Nat :=
  let c0_i32_4806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4792 : BitVec 32 := 3#32
  let v2536 : BitVec 32 := Scalar.xori v2 c3_i32_4792
  let c1_i32_4805 : BitVec 32 := 1#32
  let v2537 : BitVec 32 := Scalar.muli v2536 c1_i32_4805
  let v2538 : BitVec 32 := Scalar.addi c0_i32_4806 v2537
  v2538.toNat
def k0_dev87 (d0 : Dev nD) : Nat :=
  let c0_i32_4829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4815 : BitVec 32 := 4#32
  let v2550 : BitVec 32 := Scalar.xori v2 c4_i32_4815
  let c1_i32_4828 : BitVec 32 := 1#32
  let v2551 : BitVec 32 := Scalar.muli v2550 c1_i32_4828
  let v2552 : BitVec 32 := Scalar.addi c0_i32_4829 v2551
  v2552.toNat
def k0_dev88 (d0 : Dev nD) : Nat :=
  let c0_i32_4891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4877 : BitVec 32 := 3#32
  let v2581 : BitVec 32 := Scalar.xori v2 c3_i32_4877
  let c1_i32_4890 : BitVec 32 := 1#32
  let v2582 : BitVec 32 := Scalar.muli v2581 c1_i32_4890
  let v2583 : BitVec 32 := Scalar.addi c0_i32_4891 v2582
  v2583.toNat
def k0_dev89 (d0 : Dev nD) : Nat :=
  let c0_i32_4953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4939 : BitVec 32 := 4#32
  let v2612 : BitVec 32 := Scalar.xori v2 c4_i32_4939
  let c1_i32_4952 : BitVec 32 := 1#32
  let v2613 : BitVec 32 := Scalar.muli v2612 c1_i32_4952
  let v2614 : BitVec 32 := Scalar.addi c0_i32_4953 v2613
  v2614.toNat
def k0_dev90 (d0 : Dev nD) : Nat :=
  let c0_i32_5015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5001 : BitVec 32 := 1#32
  let v2643 : BitVec 32 := Scalar.xori v2 c1_i32_5001
  let c1_i32_5014 : BitVec 32 := 1#32
  let v2644 : BitVec 32 := Scalar.muli v2643 c1_i32_5014
  let v2645 : BitVec 32 := Scalar.addi c0_i32_5015 v2644
  v2645.toNat
def k0_dev91 (d0 : Dev nD) : Nat :=
  let c0_i32_5077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5063 : BitVec 32 := 3#32
  let v2674 : BitVec 32 := Scalar.xori v2 c3_i32_5063
  let c1_i32_5076 : BitVec 32 := 1#32
  let v2675 : BitVec 32 := Scalar.muli v2674 c1_i32_5076
  let v2676 : BitVec 32 := Scalar.addi c0_i32_5077 v2675
  v2676.toNat
def k0_dev92 (d0 : Dev nD) : Nat :=
  let c0_i32_5139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5125 : BitVec 32 := 4#32
  let v2705 : BitVec 32 := Scalar.xori v2 c4_i32_5125
  let c1_i32_5138 : BitVec 32 := 1#32
  let v2706 : BitVec 32 := Scalar.muli v2705 c1_i32_5138
  let v2707 : BitVec 32 := Scalar.addi c0_i32_5139 v2706
  v2707.toNat
def k0_dev93 (d0 : Dev nD) : Nat :=
  let c0_i32_5201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5187 : BitVec 32 := 1#32
  let v2736 : BitVec 32 := Scalar.xori v2 c1_i32_5187
  let c1_i32_5200 : BitVec 32 := 1#32
  let v2737 : BitVec 32 := Scalar.muli v2736 c1_i32_5200
  let v2738 : BitVec 32 := Scalar.addi c0_i32_5201 v2737
  v2738.toNat
def k0_dev94 (d0 : Dev nD) : Nat :=
  let c0_i32_5263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5249 : BitVec 32 := 3#32
  let v2767 : BitVec 32 := Scalar.xori v2 c3_i32_5249
  let c1_i32_5262 : BitVec 32 := 1#32
  let v2768 : BitVec 32 := Scalar.muli v2767 c1_i32_5262
  let v2769 : BitVec 32 := Scalar.addi c0_i32_5263 v2768
  v2769.toNat
def k0_dev95 (d0 : Dev nD) : Nat :=
  let c0_i32_5325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5311 : BitVec 32 := 4#32
  let v2798 : BitVec 32 := Scalar.xori v2 c4_i32_5311
  let c1_i32_5324 : BitVec 32 := 1#32
  let v2799 : BitVec 32 := Scalar.muli v2798 c1_i32_5324
  let v2800 : BitVec 32 := Scalar.addi c0_i32_5325 v2799
  v2800.toNat
def k0_dev96 (d0 : Dev nD) : Nat :=
  let c0_i32_5387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5373 : BitVec 32 := 1#32
  let v2829 : BitVec 32 := Scalar.xori v2 c1_i32_5373
  let c1_i32_5386 : BitVec 32 := 1#32
  let v2830 : BitVec 32 := Scalar.muli v2829 c1_i32_5386
  let v2831 : BitVec 32 := Scalar.addi c0_i32_5387 v2830
  v2831.toNat
def k0_dev97 (d0 : Dev nD) : Nat :=
  let c0_i32_5449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5435 : BitVec 32 := 3#32
  let v2860 : BitVec 32 := Scalar.xori v2 c3_i32_5435
  let c1_i32_5448 : BitVec 32 := 1#32
  let v2861 : BitVec 32 := Scalar.muli v2860 c1_i32_5448
  let v2862 : BitVec 32 := Scalar.addi c0_i32_5449 v2861
  v2862.toNat
def k0_dev98 (d0 : Dev nD) : Nat :=
  let c0_i32_5511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5497 : BitVec 32 := 4#32
  let v2891 : BitVec 32 := Scalar.xori v2 c4_i32_5497
  let c1_i32_5510 : BitVec 32 := 1#32
  let v2892 : BitVec 32 := Scalar.muli v2891 c1_i32_5510
  let v2893 : BitVec 32 := Scalar.addi c0_i32_5511 v2892
  v2893.toNat
def k0_dev99 (d0 : Dev nD) : Nat :=
  let c0_i32_5573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5559 : BitVec 32 := 1#32
  let v2922 : BitVec 32 := Scalar.xori v2 c1_i32_5559
  let c1_i32_5572 : BitVec 32 := 1#32
  let v2923 : BitVec 32 := Scalar.muli v2922 c1_i32_5572
  let v2924 : BitVec 32 := Scalar.addi c0_i32_5573 v2923
  v2924.toNat
def k0_dev100 (d0 : Dev nD) : Nat :=
  let c0_i32_5635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5621 : BitVec 32 := 4#32
  let v2953 : BitVec 32 := Scalar.xori v2 c4_i32_5621
  let c1_i32_5634 : BitVec 32 := 1#32
  let v2954 : BitVec 32 := Scalar.muli v2953 c1_i32_5634
  let v2955 : BitVec 32 := Scalar.addi c0_i32_5635 v2954
  v2955.toNat
def k0_dev101 (d0 : Dev nD) : Nat :=
  let c0_i32_5697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5683 : BitVec 32 := 1#32
  let v2984 : BitVec 32 := Scalar.xori v2 c1_i32_5683
  let c1_i32_5696 : BitVec 32 := 1#32
  let v2985 : BitVec 32 := Scalar.muli v2984 c1_i32_5696
  let v2986 : BitVec 32 := Scalar.addi c0_i32_5697 v2985
  v2986.toNat
def k0_dev102 (d0 : Dev nD) : Nat :=
  let c0_i32_5759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5745 : BitVec 32 := 3#32
  let v3015 : BitVec 32 := Scalar.xori v2 c3_i32_5745
  let c1_i32_5758 : BitVec 32 := 1#32
  let v3016 : BitVec 32 := Scalar.muli v3015 c1_i32_5758
  let v3017 : BitVec 32 := Scalar.addi c0_i32_5759 v3016
  v3017.toNat
def k0_dev103 (d0 : Dev nD) : Nat :=
  let c0_i32_5821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5807 : BitVec 32 := 4#32
  let v3046 : BitVec 32 := Scalar.xori v2 c4_i32_5807
  let c1_i32_5820 : BitVec 32 := 1#32
  let v3047 : BitVec 32 := Scalar.muli v3046 c1_i32_5820
  let v3048 : BitVec 32 := Scalar.addi c0_i32_5821 v3047
  v3048.toNat
def k0_dev104 (d0 : Dev nD) : Nat :=
  let c0_i32_5883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5869 : BitVec 32 := 1#32
  let v3077 : BitVec 32 := Scalar.xori v2 c1_i32_5869
  let c1_i32_5882 : BitVec 32 := 1#32
  let v3078 : BitVec 32 := Scalar.muli v3077 c1_i32_5882
  let v3079 : BitVec 32 := Scalar.addi c0_i32_5883 v3078
  v3079.toNat
def k0_dev105 (d0 : Dev nD) : Nat :=
  let c0_i32_5945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5931 : BitVec 32 := 3#32
  let v3108 : BitVec 32 := Scalar.xori v2 c3_i32_5931
  let c1_i32_5944 : BitVec 32 := 1#32
  let v3109 : BitVec 32 := Scalar.muli v3108 c1_i32_5944
  let v3110 : BitVec 32 := Scalar.addi c0_i32_5945 v3109
  v3110.toNat
def k0_dev106 (d0 : Dev nD) : Nat :=
  let c0_i32_6007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5993 : BitVec 32 := 4#32
  let v3139 : BitVec 32 := Scalar.xori v2 c4_i32_5993
  let c1_i32_6006 : BitVec 32 := 1#32
  let v3140 : BitVec 32 := Scalar.muli v3139 c1_i32_6006
  let v3141 : BitVec 32 := Scalar.addi c0_i32_6007 v3140
  v3141.toNat
def k0_dev107 (d0 : Dev nD) : Nat :=
  let c0_i32_6069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6055 : BitVec 32 := 1#32
  let v3170 : BitVec 32 := Scalar.xori v2 c1_i32_6055
  let c1_i32_6068 : BitVec 32 := 1#32
  let v3171 : BitVec 32 := Scalar.muli v3170 c1_i32_6068
  let v3172 : BitVec 32 := Scalar.addi c0_i32_6069 v3171
  v3172.toNat
def k0_dev108 (d0 : Dev nD) : Nat :=
  let c0_i32_6131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6117 : BitVec 32 := 3#32
  let v3201 : BitVec 32 := Scalar.xori v2 c3_i32_6117
  let c1_i32_6130 : BitVec 32 := 1#32
  let v3202 : BitVec 32 := Scalar.muli v3201 c1_i32_6130
  let v3203 : BitVec 32 := Scalar.addi c0_i32_6131 v3202
  v3203.toNat
def k0_dev109 (d0 : Dev nD) : Nat :=
  let c0_i32_6193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6179 : BitVec 32 := 4#32
  let v3232 : BitVec 32 := Scalar.xori v2 c4_i32_6179
  let c1_i32_6192 : BitVec 32 := 1#32
  let v3233 : BitVec 32 := Scalar.muli v3232 c1_i32_6192
  let v3234 : BitVec 32 := Scalar.addi c0_i32_6193 v3233
  v3234.toNat
def k0_dev110 (d0 : Dev nD) : Nat :=
  let c0_i32_6255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6241 : BitVec 32 := 1#32
  let v3263 : BitVec 32 := Scalar.xori v2 c1_i32_6241
  let c1_i32_6254 : BitVec 32 := 1#32
  let v3264 : BitVec 32 := Scalar.muli v3263 c1_i32_6254
  let v3265 : BitVec 32 := Scalar.addi c0_i32_6255 v3264
  v3265.toNat
def k0_dev111 (d0 : Dev nD) : Nat :=
  let c0_i32_6317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_6303 : BitVec 32 := 3#32
  let v3294 : BitVec 32 := Scalar.xori v2 c3_i32_6303
  let c1_i32_6316 : BitVec 32 := 1#32
  let v3295 : BitVec 32 := Scalar.muli v3294 c1_i32_6316
  let v3296 : BitVec 32 := Scalar.addi c0_i32_6317 v3295
  v3296.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x256 : Shape := ⟨2, ![512, 256]⟩
abbrev S256x4096 : Shape := ⟨2, ![256, 4096]⟩
abbrev S4096x256 : Shape := ⟨2, ![4096, 256]⟩
abbrev S512x4096 : Shape := ⟨2, ![512, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x4096, .f32⟩
  | .hbm, ⟨2, _⟩ => ⟨S4096x256, .f32⟩
  | .hbm, ⟨3, _⟩ => ⟨S256x4096, .f32⟩
  | .hbm, ⟨4, _⟩ => ⟨S4096x256, .f32⟩
  | .hbm, ⟨5, _⟩ => ⟨S256x4096, .f32⟩
  | .hbm, ⟨6, _⟩ => ⟨S4096x256, .f32⟩
  | .hbm, ⟨7, _⟩ => ⟨S512x4096, .f32⟩
  | .hbm, ⟨8, _⟩ => ⟨S_, .f32⟩
  | .hbm, ⟨9, _⟩ => ⟨S512x4096, .f32⟩
  | .hbm, ⟨10, _⟩ => ⟨S512x4096, .f32⟩
  | .hbm, ⟨11, _⟩ => ⟨S512x256, .f32⟩
  | .hbm, ⟨12, _⟩ => ⟨S512x4096, .f32⟩
  | .hbm, ⟨13, _⟩ => ⟨S_, .f32⟩
  | .hbm, ⟨14, _⟩ => ⟨S512x4096, .f32⟩
  | .hbm, ⟨15, _⟩ => ⟨S512x4096, .f32⟩
  | .hbm, ⟨16, _⟩ => ⟨S512x256, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Kernel.Eq.lean ====
module

public import proofs.«01_k».proof.Proof.Kernel.Prog

@[expose] public section

noncomputable section

namespace Cert.Kernel.Ring

open Cert.Kernel Cert.Kernel.Gen
open Idealize.ShloMosaic Idealize.ShloMosaic.TcCoe
open Idealize.SL Idealize.SL.Sem

variable {F : FTy → Type} [FloatOps F]

/-- The printed kernel, called as the pipeline calls it, is the program of loops. -/
theorem cc0_body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_stg6_0) (Memref.isWhole_whole _) (Memref.whole cc0_stg7_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) cc0_scratch24 cc0_scratch25
    = body := by
  chain_rfl

end Cert.Kernel.Ring

end
-- ==== Proof.KernelIdeal.Prog.lean ====
/-
  The kernel of `Cert.KernelIdeal` written as the loops it was unrolled from: for a layer `l`, a round `r`, a strip `s` of
  128 rows and a chunk `c` of that strip, one exchange stores the chunk, sends it to a peer, and later waits for its own
  sending and for the peer's chunk, which it adds. `cc0_body_eq` says that the printed kernel is this program.
-/
module

public import proofs.«01_k».proof.Proof.Gen.KernelIdeal
public import Idealize.ShloMosaic.Lib.Pipeline.Regions

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-- The kernel's effects. -/
abbrev Eff (F : FTy → Type) := TpuEff nD τ sig (Elt F) Λ₀ .tc

/-! ## The shapes, by chunk -/

/-- Rows of chunk `c` of a strip, -/
def rows : Fin 3 → Nat
  | 0 => 48 | 1 => 40 | 2 => 40
/-- and the strip's row at which it begins. -/
def offs : Fin 3 → Nat
  | 0 => 0 | 1 => 48 | 2 => 88

/-- A chunk, a buffer of nine chunks (by layer and round), and one of the nine. -/
abbrev SC (c : Fin 3) : Shape := ⟨2, ![rows c, 256]⟩
abbrev SB (c : Fin 3) : Shape := ⟨4, ![3, 3, rows c, 256]⟩
abbrev SL (c : Fin 3) : Shape := ⟨4, ![1, 1, rows c, 256]⟩

theorem rows_pos (c : Fin 3) : 0 < rows c := by revert c; decide
theorem rows_le (c : Fin 3) : rows c ≤ 48 := by revert c; decide
theorem offs_rows (c : Fin 3) : offs c + rows c ≤ 128 := by revert c; decide

theorem numel_SL_pos (c : Fin 3) : 0 < (SL c).numel := by revert c; decide
theorem numel_SC_pos (c : Fin 3) : 0 < (SC c).numel := by revert c; decide

/-- The offsets of the chunk of layer `l` and round `r` in such a buffer. -/
abbrev loff (l r : Fin 3) : Fin 4 → Nat := ![l.val, r.val, 0, 0]

theorem inbL (l r c : Fin 3) : ∀ a, loff l r a + (SL c).size a ≤ (SB c).size a := by revert l r c; decide
theorem inbS (l r : Fin 3) (s : Fin 4) (c : Fin 3) :
    ∀ a, (![l.val, r.val, s.val, c.val] : Fin 4 → Nat) a + S1x1x1x1.size a ≤ S3x3x4x3.size a := by revert l r s c; decide

theorem castCL (c : Fin 3) : (SC c).ShapeCasts (SL c) := by
  revert c; intro c; fin_cases c
  exacts [shapeCasts_S48x256_S1x1x48x256, shapeCasts_S40x256_S1x1x40x256, shapeCasts_S40x256_S1x1x40x256]
theorem castLC (c : Fin 3) : (SL c).ShapeCasts (SC c) := by
  fin_cases c
  exacts [shapeCasts_S1x1x48x256_S48x256, shapeCasts_S1x1x40x256_S40x256, shapeCasts_S1x1x40x256_S40x256]
theorem squeezeLC (c : Fin 3) : (SL c).Squeezes (SC c) := by
  fin_cases c
  exacts [squeezes_S1x1x48x256_S48x256, squeezes_S1x1x40x256_S40x256, squeezes_S1x1x40x256_S40x256]
theorem slicesC (c : Fin 3) : S128x256.Slices ![offs c, 0] (SC c) := by
  fin_cases c
  exacts [slices_S128x256_o0_0_S48x256, slices_S128x256_o48_0_S40x256, slices_S128x256_o88_0_S40x256]

/-! ## The buffers and semaphores -/

/-- The two weights of layer `l`, as staged. -/
def winM : Fin 3 → Memref sig .tc .vmem S256x512 .f32
  | 0 => Memref.whole cc0_stg1_0 | 1 => Memref.whole cc0_stg3_0 | 2 => Memref.whole cc0_stg5_0
def woutM : Fin 3 → Memref sig .tc .vmem S512x256 .f32
  | 0 => Memref.whole cc0_stg2_0 | 1 => Memref.whole cc0_stg4_0 | 2 => Memref.whole cc0_stg6_0
abbrev xM : Memref sig .tc .vmem S512x256 .f32 := Memref.whole cc0_stg0_0
abbrev oM : Memref sig .tc .vmem S512x256 .f32 := Memref.whole cc0_stg7_0

/-- The buffer from which chunk `c` of strip `s` is sent, and the one in which its peers' land. -/
def sM : (s : Fin 4) → (c : Fin 3) → Memref sig .tc .vmem (SB c) .f32
  | 0, 0 => Memref.whole cc0_scratch0 | 0, 1 => Memref.whole cc0_scratch1 | 0, 2 => Memref.whole cc0_scratch2
  | 1, 0 => Memref.whole cc0_scratch3 | 1, 1 => Memref.whole cc0_scratch4 | 1, 2 => Memref.whole cc0_scratch5
  | 2, 0 => Memref.whole cc0_scratch6 | 2, 1 => Memref.whole cc0_scratch7 | 2, 2 => Memref.whole cc0_scratch8
  | 3, 0 => Memref.whole cc0_scratch9 | 3, 1 => Memref.whole cc0_scratch10 | 3, 2 => Memref.whole cc0_scratch11
def rM : (s : Fin 4) → (c : Fin 3) → Memref sig .tc .vmem (SB c) .f32
  | 0, 0 => Memref.whole cc0_scratch12 | 0, 1 => Memref.whole cc0_scratch13 | 0, 2 => Memref.whole cc0_scratch14
  | 1, 0 => Memref.whole cc0_scratch15 | 1, 1 => Memref.whole cc0_scratch16 | 1, 2 => Memref.whole cc0_scratch17
  | 2, 0 => Memref.whole cc0_scratch18 | 2, 1 => Memref.whole cc0_scratch19 | 2, 2 => Memref.whole cc0_scratch20
  | 3, 0 => Memref.whole cc0_scratch21 | 3, 1 => Memref.whole cc0_scratch22 | 3, 2 => Memref.whole cc0_scratch23

/-- The chunk of layer `l` and round `r` in a buffer: the rectangle, and the view of it as a chunk. -/
abbrev lrect (l r c : Fin 3) : Rect (SB c) := Rect.unit (s := SB c) (loff l r) (SL c).size (inbL l r c)
abbrev piece (l r c : Fin 3) (M : Memref sig .tc .vmem (SB c) .f32) : Memref sig .tc .vmem (SC c) .f32 :=
  (M.slice (lrect l r c) (fun _ => rfl)).squeeze (SC c) (squeezeLC c)

/-- An exchange: its layer, round, strip and chunk. -/
abbrev Ex := Fin 3 × Fin 3 × Fin 4 × Fin 3

abbrev sP (l r : Fin 3) (s : Fin 4) (c : Fin 3) := piece l r c (sM s c)
abbrev rP (l r : Fin 3) (s : Fin 4) (c : Fin 3) := piece l r c (rM s c)

abbrev semAt (A : DmaSems sig S3x3x4x3) (l r : Fin 3) (s : Fin 4) (c : Fin 3) : DmaSem sig :=
  ((A.slice (Rect.unit (s := S3x3x4x3) ![l.val, r.val, s.val, c.val] S1x1x1x1.size (inbS l r s c))).squeeze S_ squeezes_S1x1x1x1_S_).sem
abbrev sSem := semAt cc0_scratch24
abbrev rSem := semAt cc0_scratch25

/-! ## The peers -/

/-- The device numbers that a device is combined with, bit by bit, to name a peer. -/
def mask : Fin 3 → BitVec 32
  | 0 => 1#32 | 1 => 3#32 | 2 => 4#32
/-- The mask by which round `r` of chunk `c` goes. -/
def turn : (r c : Fin 3) → Fin 3
  | 0, c => c
  | 1, 0 => 1 | 1, 1 => 2 | 1, 2 => 0
  | 2, 0 => 2 | 2, 1 => 0 | 2, 2 => 1

/-- The peer's number, as the kernel computes it. -/
def peerNo (k : Fin 3) (d : Dev nD) : Nat :=
  (Scalar.addi 0#32 (Scalar.muli (Scalar.xori (Scalar.remsi (Scalar.divsi (Dev.word d) 1#32) 8#32) (mask k)) 1#32)).toNat
theorem peerNo_lt (k : Fin 3) (d : Dev nD) : peerNo k d < nD := by revert k d; decide
def peer (k : Fin 3) (d : Dev nD) : Dev nD := ⟨peerNo k d, peerNo_lt k d⟩

theorem peer_peer (k : Fin 3) (d : Dev nD) : peer k (peer k d) = d := by revert k d; decide

/-! ## The program -/

/-- The chunks of a strip. -/
abbrev Chunks (F : FTy → Type) := (c : Fin 3) → FVec F (SC c) .f32

def forC {A : Fin 3 → Type} (f : (c : Fin 3) → Prog (Eff F) (A c)) : Prog (Eff F) ((c : Fin 3) → A c) := do
  let a0 ← f 0
  let a1 ← f 1
  let a2 ← f 2
  pure fun | 0 => a0 | 1 => a1 | 2 => a2

def forS {A : Type} (f : Fin 4 → Prog (Eff F) A) : Prog (Eff F) (Fin 4 → A) := do
  let a0 ← f 0
  let a1 ← f 1
  let a2 ← f 2
  let a3 ← f 3
  pure fun | 0 => a0 | 1 => a1 | 2 => a2 | 3 => a3

/-- Store a chunk and send it to the peer of its round. -/
def issue (d : Dev nD) (l r : Fin 3) (s : Fin 4) (c : Fin 3) (v : FVec F (SC c) .f32) : Prog (Eff F) PUnit := do
  let _ : Vec F (SL c) .f32 ← Prog.lift (.load (sM s c) (lrect l r c).toLoadRect (View.loadsAt_vmem (numel_SL_pos c)))
  Prog.lift (.store (sM s c) (lrect l r c) (shapeCast (SL c) v (castCL c)) Finset.univ (View.stores_vmem_bits_univ (numel_SL_pos c) rfl) (.inl rfl))
  Prog.lift (.enqueueDma (sP l r s c) (.remote (Dev.tc (peer (turn r c) d)) (rP l r s c) (.dma (sSem l r s c))) (.dma (rSem l r s c))
    ((View.wordExact_bits rfl).reshape _ _) ((View.wordExact_bits rfl).reshape _ _) ⟨⟨rfl, Or.inl rfl⟩, trivial⟩)

/-- Wait for one's own chunk to have left and for the peer's to have landed, and add it. -/
def finish (l r : Fin 3) (s : Fin 4) (c : Fin 3) (v : FVec F (SC c) .f32) : Prog (Eff F) (FVec F (SC c) .f32) := do
  Prog.lift (.waitDma2 (sSem l r s c) (rP l r s c) (sP l r s c) ((View.wordExact_bits rfl).reshape _ _) ((View.wordExact_bits rfl).reshape _ _))
  Prog.lift (.waitDma2 (rSem l r s c) (sP l r s c) (rP l r s c) ((View.wordExact_bits rfl).reshape _ _) ((View.wordExact_bits rfl).reshape _ _))
  let w : Vec F (SL c) .f32 ← Prog.lift (.load (rM s c) (lrect l r c).toLoadRect (View.loadsAt_vmem (numel_SL_pos c)))
  pure (addf v (shapeCast (SC c) w (castLC c)))

/-- A strip through a layer's two weights: the device's part of the layer's result. -/
def layerVal (x : FVec F S128x256 .f32) (wi : Vec F S256x512 .f32) (wo : Vec F S512x256 .f32) : FVec F S128x256 .f32 :=
  matmul dot_S128x512_S512x256_S128x256_1_0_0_1_n_n none
    (maximumf (matmul dot_S128x256_S256x512_S128x512_1_0_0_1_n_n none x (shapeCast S256x512 wi shapeCasts_S256x512_S256x512)
      (constant S128x512 .f32 0x00000000#32)) (broadcast S128x512 (Scalar.ofBits .f32 0x00000000#32)))
    (shapeCast S512x256 wo shapeCasts_S512x256_S512x256) (constant S128x256 .f32 0x00000000#32)

/-- A strip cut into its chunks, and put together again. -/
def cut (a : FVec F S128x256 .f32) : Chunks F := fun c => extractStridedSlice (SC c) ![offs c, 0] a (slicesC c)
def glue (v : Chunks F) : FVec F S128x256 .f32 :=
  concatenate S128x256 0 [⟨S48x256, v 0⟩, ⟨S40x256, v 1⟩, ⟨S40x256, v 2⟩] concatenates_S48x256_S40x256_S40x256_S128x256_d0

def gemm (l : Fin 3) (x : FVec F S128x256 .f32) : Prog (Eff F) (Chunks F) := do
  let wi : Vec F S256x512 .f32 ← Prog.lift (.load (winM l) (Rect.unit (s := S256x512) ![0, 0] S256x512.size inb_S256x512_S256x512_0_0).toLoadRect (View.loadsAt_vmem h_S256x512))
  let wo : Vec F S512x256 .f32 ← Prog.lift (.load (woutM l) (Rect.unit (s := S512x256) ![0, 0] S512x256.size inb_S512x256_S512x256_0_0).toLoadRect (View.loadsAt_vmem h_S512x256))
  pure (cut (layerVal x wi wo))

theorem inbX (s : Fin 4) : ∀ a, (![128 * s.val, 0] : Fin 2 → Nat) a + S128x256.size a ≤ S512x256.size a := by revert s; decide
theorem inbO (s : Fin 4) (c : Fin 3) : ∀ a, (![128 * s.val + offs c, 0] : Fin 2 → Nat) a + (SC c).size a ≤ S512x256.size a := by
  revert s c; decide

/-- The first layer's first sending of strip `s`, -/
def first (d : Dev nD) (s : Fin 4) : Prog (Eff F) (Chunks F) := do
  let x : Vec F S128x256 .f32 ← Prog.lift (.load xM (Rect.unit (s := S512x256) ![128 * s.val, 0] S128x256.size (inbX s)).toLoadRect (View.loadsAt_vmem h_S128x256))
  let a ← gemm 0 (shapeCast S128x256 x shapeCasts_S128x256_S128x256)
  let _ ← forC fun c => issue d 0 0 s c (a c)
  pure a

/-- a round that is not the last, -/
def round (d : Dev nD) (l r r' : Fin 3) (ch : Fin 4 → Chunks F) : Prog (Eff F) (Fin 4 → Chunks F) :=
  forS fun s => forC fun c => do
    let v ← finish l r s c (ch s c)
    issue d l r' s c v
    pure v

/-- the last round of a layer that is not the last, with the next layer's first sending, -/
def next (d : Dev nD) (l l' : Fin 3) (ch : Fin 4 → Chunks F) : Prog (Eff F) (Fin 4 → Chunks F) :=
  forS fun s => do
    let v ← forC fun c => finish l 2 s c (ch s c)
    let a ← gemm l' (glue v)
    let _ ← forC fun c => issue d l' 0 s c (a c)
    pure a

/-- the last round of the last layer, -/
def last (ch : Fin 4 → Chunks F) : Prog (Eff F) (Fin 4 → Chunks F) :=
  forS fun s => forC fun c => finish 2 2 s c (ch s c)

/-- and the storing of a result's chunk. -/
def put (s : Fin 4) (c : Fin 3) (v : FVec F (SC c) .f32) : Prog (Eff F) PUnit := do
  let _ : Vec F (SC c) .f32 ← Prog.lift (.load oM (Rect.unit (s := S512x256) ![128 * s.val + offs c, 0] (SC c).size (inbO s c)).toLoadRect (View.loadsAt_vmem (numel_SC_pos c)))
  Prog.lift (.store oM (Rect.unit (s := S512x256) ![128 * s.val + offs c, 0] (SC c).size (inbO s c)) v Finset.univ (View.stores_vmem_bits_univ (numel_SC_pos c) rfl) (.inl rfl))

/-- The barrier's handshake: a signal to each peer, a wait for all three. -/
def handshake (d : Dev nD) : Prog (Eff F) PUnit := do
  semSignalWord (peer 0 d) (SemArray.scalar (sig.barrier 0 rfl) : Sems sig S_).sem 1#32
  semSignalWord (peer 1 d) (SemArray.scalar (sig.barrier 0 rfl) : Sems sig S_).sem 1#32
  semSignalWord (peer 2 d) (SemArray.scalar (sig.barrier 0 rfl) : Sems sig S_).sem 1#32
  semWaitWord (SemArray.scalar (sig.barrier 0 rfl) : Sems sig S_).sem 3#32

/-- The kernel. -/
def body : Prog (Eff F) PUnit := do
  let d : Dev nD ← Prog.lift .deviceId
  handshake d
  let ch ← forS fun s => first d s
  let ch ← round d 0 0 1 ch
  let ch ← round d 0 1 2 ch
  let ch ← next d 0 1 ch
  let ch ← round d 1 0 1 ch
  let ch ← round d 1 1 2 ch
  let ch ← next d 1 2 ch
  let ch ← round d 2 0 1 ch
  let ch ← round d 2 1 2 ch
  let ch ← last ch
  let _ ← forS fun s => forC fun c => put s c (ch s c)
  pure ⟨⟩

end Cert.KernelIdeal.Ring

end
-- ==== Proof.KernelIdeal.Proto.lean ====
/-
  The protocol of the kernel's exchanges. Every exchange has a receive cell and a send cell of its own on each device,
  and every device a barrier cell. A device's barrier cell is paid by its three peers, each handing over the landing
  places into which the device will send to it; a receive cell is paid by the peer whose chunk lands, a send cell by
  the device's own sending.
-/
module

public import proofs.«01_k».proof.Proof.KernelIdeal.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and these -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The exchanges' cells -/

/-- The mask of an exchange, and its place in the order of sending. -/
def turnE (e : Ex) : Fin 3 := turn e.2.1 e.2.2.2
def num (e : Ex) : ℕ := 36 * e.1.val + 12 * e.2.1.val + 3 * e.2.2.1.val + e.2.2.2.val

theorem num_lt (e : Ex) : num e < 108 := by
  obtain ⟨l, r, s, c⟩ := e
  have := l.isLt; have := r.isLt; have := s.isLt; have := c.isLt
  simp only [num]; omega
theorem num_inj : Function.Injective num := by
  rintro ⟨l, r, s, c⟩ ⟨l', r', s', c'⟩ h
  have := l.isLt; have := r.isLt; have := s.isLt; have := c.isLt
  have := l'.isLt; have := r'.isLt; have := s'.isLt; have := c'.isLt
  simp only [num] at h
  simp only [Prod.mk.injEq, Fin.ext_iff]; omega

/-- The peer an exchange goes to, which is the one it comes from. -/
abbrev mate (e : Ex) (d : Dev nD) : Dev nD := peer (turnE e) d
theorem mate_mate (e : Ex) (d : Dev nD) : mate e (mate e d) = d := peer_peer _ d

abbrev sS (e : Ex) : DmaSem sig := sSem e.1 e.2.1 e.2.2.1 e.2.2.2
abbrev rS (e : Ex) : DmaSem sig := rSem e.1 e.2.1 e.2.2.1 e.2.2.2
abbrev barS : Sem sig := (SemArray.scalar (sig.barrier 0 rfl) : Sems sig S_).sem

/-- The exchange's chunk in the buffer it is sent from, and in the one it lands in. -/
abbrev sV (e : Ex) : Memref sig .tc .vmem (SC e.2.2.2) .f32 := sP e.1 e.2.1 e.2.2.1 e.2.2.2
abbrev rV (e : Ex) : Memref sig .tc .vmem (SC e.2.2.2) .f32 := rP e.1 e.2.1 e.2.2.1 e.2.2.2

/-- The cells of a device: its barrier, and each exchange's send cell (`false`) and receive cell (`true`). -/
abbrev Cix := Option (Bool × Ex)
instance : DecidableEq Ex := instDecidableEqProd
instance : DecidableEq (Bool × Ex) := instDecidableEqProd
instance : DecidableEq Cix := inferInstanceAs (DecidableEq (Option (Bool × Ex)))
instance : DecidableEq (Dev nD × Cix) := instDecidableEqProd
def semOf : Cix → SemLoc sig
  | none => .reg barS
  | some (false, e) => .dma (sS e)
  | some (true, e) => .dma (rS e)

theorem sS_val : ∀ e : Ex, (sS e).val = 8 + num e := by decide +kernel
theorem rS_val : ∀ e : Ex, (rS e).val = 116 + num e := by decide +kernel

theorem semOf_inj : Function.Injective semOf := by
  rintro (_ | ⟨b, e⟩) (_ | ⟨b', e'⟩) h
  · rfl
  · cases b' <;> exact absurd h (by simp [semOf])
  · cases b <;> exact absurd h (by simp [semOf])
  · have := sS_val e; have := sS_val e'; have := rS_val e; have := rS_val e'
    have := num_lt e; have := num_lt e'
    cases b <;> cases b' <;> simp only [semOf, SemLoc.dma.injEq, Fin.ext_iff] at h
    · rw [num_inj (a₁ := e) (a₂ := e') (by omega)]
    · exact absurd h (by omega)
    · exact absurd h (by omega)
    · rw [num_inj (a₁ := e) (a₂ := e') (by omega)]

open Classical in
/-- The cell a semaphore belongs to, if any. -/
def kindOf (sm : SemLoc sig) : Option Cix := if h : ∃ ix, semOf ix = sm then some h.choose else none
theorem kindOf_semOf (ix : Cix) : kindOf (semOf ix) = some ix := by
  have h : ∃ ix', semOf ix' = semOf ix := ⟨ix, rfl⟩
  unfold kindOf; rw [dif_pos h, semOf_inj h.choose_spec]
theorem kindOf_stage (q : DmaSem sig) (hq : q.val < 8) : kindOf (.dma q) = none := by
  unfold kindOf; rw [dif_neg]
  rintro ⟨_ | ⟨b, e⟩, h⟩
  · simp [semOf] at h
  · have := sS_val e; have := rS_val e
    cases b <;> simp only [semOf, SemLoc.dma.injEq, Fin.ext_iff] at h <;> omega

abbrev kcell (d : Dev nD) (ix : Cix) : GSem nD τ sig := ((d : Thread nD τ), semOf ix)
abbrev barCell (d : Dev nD) : GSem nD τ sig := kcell d none
abbrev sCell (d : Dev nD) (e : Ex) : GSem nD τ sig := kcell d (some (false, e))
abbrev rCell (d : Dev nD) (e : Ex) : GSem nD τ sig := kcell d (some (true, e))

theorem kcell_inj {d d' : Dev nD} {ix ix' : Cix} (h : kcell d ix = kcell d' ix') : d = d' ∧ ix = ix' :=
  ⟨congrArg (fun g : GSem nD τ sig => g.1.1) h, semOf_inj (congrArg (fun g : GSem nD τ sig => g.2) h)⟩

/-- What a transfer of the exchange's chunk credits. -/
def credit (e : Ex) : ℕ := (rV e).view.dmaCredit
theorem credit_pos (e : Ex) : 0 < credit e := View.dmaCredit_pos _ (numel_SC_pos _)
theorem credit_send (e : Ex) : (sV e).view.dmaCredit = credit e := by
  obtain ⟨l, r, s, c⟩ := e
  unfold credit; fin_cases s <;> fin_cases c <;> rfl

/-! ## The contents -/

/-- What device `d`'s staging buffers hold: `x`, and the two weights of each layer. -/
def xv (d : Dev nD) : Vec F S512x256 .f32 := (win0_0.blk (0 : Fin 1)).view.read (Elt F) ((s₀ m ρ).mem ((d : Thread nD τ).loc main_arg0))
def wiv (d : Dev nD) : Fin 3 → Vec F S256x512 .f32
  | 0 => (win0_1.blk (0 : Fin 1)).view.read (Elt F) ((s₀ m ρ).mem ((d : Thread nD τ).loc main_arg1))
  | 1 => (win0_3.blk (0 : Fin 1)).view.read (Elt F) ((s₀ m ρ).mem ((d : Thread nD τ).loc main_arg3))
  | 2 => (win0_5.blk (0 : Fin 1)).view.read (Elt F) ((s₀ m ρ).mem ((d : Thread nD τ).loc main_arg5))
def wov (d : Dev nD) : Fin 3 → Vec F S512x256 .f32
  | 0 => (win0_2.blk (0 : Fin 1)).view.read (Elt F) ((s₀ m ρ).mem ((d : Thread nD τ).loc main_arg2))
  | 1 => (win0_4.blk (0 : Fin 1)).view.read (Elt F) ((s₀ m ρ).mem ((d : Thread nD τ).loc main_arg4))
  | 2 => (win0_6.blk (0 : Fin 1)).view.read (Elt F) ((s₀ m ρ).mem ((d : Thread nD τ).loc main_arg6))

abbrev xrect (s : Fin 4) : Rect S512x256 := Rect.unit (s := S512x256) ![128 * s.val, 0] S128x256.size (inbX s)
abbrev orect (s : Fin 4) (c : Fin 3) : Rect S512x256 := Rect.unit (s := S512x256) ![128 * s.val + offs c, 0] (SC c).size (inbO s c)

/-- Strip `s` of `x`, as the kernel loads it. -/
def strip (x : Vec F S512x256 .f32) (s : Fin 4) : FVec F S128x256 .f32 :=
  shapeCast S128x256 (xM.view.readAt (Elt F) (xrect s).toLoadRect x) shapeCasts_S128x256_S128x256

/-- One chunk of every strip on every device; one turn of the sum, to which each device adds its peer's. -/
abbrev Field (F : FTy → Type) := Dev nD → Fin 4 → Chunks F
def tri (n : ℕ) : Fin 3 := ⟨n % 3, Nat.mod_lt _ (by decide)⟩
def turned (r : Fin 3) (ch : Field F) : Field F := fun d s c => addf (ch d s c) (ch (peer (turn r c) d) s c)
/-- The chunks before round `n`. -/
def rounds (ch : Field F) : ℕ → Field F
  | 0 => ch
  | n + 1 => turned (tri n) (rounds ch n)
/-- The layer's parts on every device, cut. -/
def parts (l : Fin 3) (X : Dev nD → Fin 4 → FVec F S128x256 .f32) : Field F :=
  fun d s => cut (layerVal (X d s) (wiv m ρ d l) (wov m ρ d l))
/-- What enters layer `n`. -/
def layers : ℕ → Dev nD → Fin 4 → FVec F S128x256 .f32
  | 0 => fun d s => strip (xv m ρ d) s
  | n + 1 => fun d s => glue (rounds (parts m ρ (tri n) (layers n)) 3 d s)

/-- The chunks of layer `l` before round `r` of its sum. -/
def chunkAt (l : Fin 3) (r : ℕ) : Field F := rounds (parts m ρ l (layers m ρ l.val)) r

theorem tri_val (r : Fin 3) : tri r.val = r := Fin.ext (Nat.mod_eq_of_lt r.isLt)
theorem chunkAt_succ (l r : Fin 3) (d : Dev nD) (s : Fin 4) (c : Fin 3) :
    chunkAt m ρ l (r.val + 1) d s c = addf (chunkAt m ρ l r.val d s c) (chunkAt m ρ l r.val (peer (turn r c) d) s c) := by
  show turned (tri r.val) _ d s c = _
  rw [tri_val]; rfl
theorem chunkAt_zero (l : Fin 3) (d : Dev nD) (s : Fin 4) :
    chunkAt m ρ l 0 d s = cut (layerVal (layers m ρ l.val d s) (wiv m ρ d l) (wov m ρ d l)) := rfl
theorem layers_succ (l : Fin 3) (d : Dev nD) (s : Fin 4) : layers m ρ (l.val + 1) d s = glue (chunkAt m ρ l 3 d s) := by
  show glue (rounds (parts m ρ (tri l.val) _) 3 d s) = _
  rw [tri_val]; rfl

/-- What is sent in exchange `e` by device `d`. -/
abbrev sent (d : Dev nD) (e : Ex) : FVec F (SC e.2.2.2) .f32 := chunkAt m ρ e.1 e.2.1.val d e.2.2.1 e.2.2.2

/-! ## The schedule -/

/-- Device `d`'s place to send exchange `e` from, at some contents; its landing place, likewise; and that place with
    the peer's chunk. -/
def sHeld (d : Dev nD) (e : Ex) : sProp 𝕄 :=
  iprop(∃ f : Buf (Elt F) ((sV e).view.loc (d : Thread nD τ)), (sV e).view.loc (d : Thread nD τ) ↦[(sV e).view.set]{fullShare} f)
def rHeld (d : Dev nD) (e : Ex) : sProp 𝕄 :=
  iprop(∃ f : Buf (Elt F) ((rV e).view.loc (d : Thread nD τ)), (rV e).view.loc (d : Thread nD τ) ↦[(rV e).view.set]{fullShare} f)
def landed (d : Dev nD) (e : Ex) : sProp 𝕄 :=
  iprop(∃ f : Buf (Elt F) ((rV e).view.loc (d : Thread nD τ)),
    ⌜(rV e).view.read (Elt F) f = sent m ρ (mate e d) e⌝ ∗ (rV e).view.loc (d : Thread nD τ) ↦[(rV e).view.set]{fullShare} f)
/-- What peer `k`'s signal hands device `d`. -/
def barPay (d : Dev nD) (k : Fin 3) : sProp 𝕄 := bigSep (Finset.univ.filter fun e : Ex => turnE e = k) fun e => rHeld (peer k d) e

def pay (d : Dev nD) (k : Fin 3) : Option Cix → sProp 𝕄
  | some none => barPay d k
  | some (some (false, e)) => sHeld d e
  | some (some (true, e)) => landed m ρ d e
  | none => iprop(emp)
def amt : Option Cix → ℕ
  | some (some (_, e)) => credit e
  | _ => 1
def dut : Option Cix → Finset (Fin 3)
  | some none => Finset.univ
  | some (some _) => {0}
  | none => ∅

instance sHeld_storable (d : Dev nD) (e : Ex) : BI.Storable (upEmb : UEmb _ 𝕄) (sHeld (F := F) d e) := by unfold sHeld; infer_instance
instance rHeld_storable (d : Dev nD) (e : Ex) : BI.Storable (upEmb : UEmb _ 𝕄) (rHeld (F := F) d e) := by unfold rHeld; infer_instance
instance landed_storable (d : Dev nD) (e : Ex) : BI.Storable (upEmb : UEmb _ 𝕄) (landed m ρ d e) := by unfold landed; infer_instance
instance barPay_storable (d : Dev nD) (k : Fin 3) : BI.Storable (upEmb : UEmb _ 𝕄) (barPay (F := F) d k) := by unfold barPay; infer_instance
instance pay_storable (d : Dev nD) (k : Fin 3) (o : Option Cix) : BI.Storable (upEmb : UEmb _ 𝕄) (pay m ρ d k o) := by
  rcases o with _ | _ | ⟨_ | _, e⟩ <;> (unfold pay; infer_instance)

/-- One round of every cell, round 0. -/
def Rd : Rounds.Schedule (GSem nD τ sig) (Fin 3) 𝕄 where
  duties g r := if r = 0 ∧ g.1.2 = .tc then dut (kindOf g.2) else ∅
  unitless _ := False
  amount g _ _ := amt (kindOf g.2)
  payload g _ k := pay m ρ g.1.1 k (kindOf g.2)
  amount_pos g _ _ _ := by
    rcases kindOf g.2 with _ | _ | ⟨b, e⟩
    · exact Nat.one_pos
    · exact Nat.one_pos
    · exact credit_pos e

instance Rd_storable (g : GSem nD τ sig) (r : ℕ) (k : Fin 3) : BI.Storable (upEmb : UEmb _ 𝕄) ((Rd m ρ).payload g r k) :=
  pay_storable m ρ g.1.1 k (kindOf g.2)

theorem Rd_duties (d : Dev nD) (ix : Cix) : (Rd m ρ).duties (kcell d ix) 0 = dut (some ix) := by
  dsimp only [Rd]; rw [if_pos ⟨rfl, rfl⟩, kindOf_semOf]
theorem Rd_later (g : GSem nD τ sig) : ∀ r, 1 ≤ r → (Rd m ρ).duties g r = ∅ :=
  fun r hr => by dsimp only [Rd]; rw [if_neg fun h => by omega]
theorem Rd_amount (d : Dev nD) (ix : Cix) (k : Fin 3) : (Rd m ρ).amount (kcell d ix) 0 k = amt (some ix) := by
  dsimp only [Rd]; rw [kindOf_semOf]
theorem Rd_payload (d : Dev nD) (ix : Cix) (k : Fin 3) : (Rd m ρ).payload (kcell d ix) 0 k = pay m ρ d k (some ix) := by
  dsimp only [Rd]; rw [kindOf_semOf]
theorem Rd_expect_bar (d : Dev nD) : (Rd m ρ).expect (barCell d) 0 = 3 := by
  unfold Schedule.expect Schedule.amountOf
  rw [Rd_duties, Finset.sum_congr rfl fun k _ => Rd_amount m ρ d none k]; rfl
theorem Rd_expect (d : Dev nD) (b : Bool) (e : Ex) : (Rd m ρ).expect (kcell d (some (b, e))) 0 = credit e := by
  unfold Schedule.expect Schedule.amountOf
  rw [Rd_duties, Finset.sum_congr rfl fun k _ => Rd_amount m ρ d (some (b, e)) k]; rfl
theorem Rd_rest (d : Dev nD) (b : Bool) (e : Ex) :
    bigSep ((Rd m ρ).duties (kcell d (some (b, e))) 0 \ ∅) (fun k => (Rd m ρ).payload (kcell d (some (b, e))) 0 k)
      = pay m ρ d 0 (some (some (b, e))) := by
  rw [Finset.sdiff_empty, Rd_duties, show dut (some (some (b, e))) = {0} from rfl, bigSep_singleton, Rd_payload]

/-- All three peers' payloads are a landing place for every exchange. -/
theorem Rd_rest_bar (d : Dev nD) :
    bigSep ((Rd m ρ).duties (barCell d) 0 \ ∅) (fun k => (Rd m ρ).payload (barCell d) 0 k)
      = bigSep Finset.univ fun e : Ex => (rHeld (mate e d) e : sProp 𝕄) := by
  rw [Finset.sdiff_empty, Rd_duties, show dut (some none) = Finset.univ from rfl,
    bigSep_fiberwise Finset.univ turnE,
    show Finset.univ.image turnE = Finset.univ from by
      ext k; simp only [Finset.mem_image, Finset.mem_univ, true_and, iff_true]
      exact ⟨(0, 0, 0, k), rfl⟩]
  refine bigSep_congr fun k _ => ?_
  rw [Rd_payload]
  show barPay d k = _
  unfold barPay
  exact bigSep_congr fun e he => by rw [show mate e d = peer k d from by rw [← (Finset.mem_filter.mp he).2]]

/-! ## What a device owes, and the levels -/

/-- From the `n`th sending on, a device owes every later exchange's credit to its peer's receive cell. -/
def tal (d : Dev nD) (n : ℕ) : CellTallies nD τ sig Unit :=
  ∑ e ∈ Finset.univ.filter (fun e : Ex => n ≤ num e), tallyAt (rCell (mate e d) e) () (credit e)
def barTal (d : Dev nD) (k : Fin 3) : CellTallies nD τ sig Unit := tallyAt (barCell (peer k d)) () 1
def O₀ (d : Dev nD) : CellTallies nD τ sig Unit := tal d 0 + barTal d 2 + barTal d 1 + barTal d 0

theorem tal_peel (d : Dev nD) (e : Ex) : tal d (num e) = tal d (num e + 1) + tallyAt (rCell (mate e d) e) () (credit e) := by
  unfold tal
  rw [show Finset.univ.filter (fun e' : Ex => num e ≤ num e') = insert e (Finset.univ.filter fun e' : Ex => num e + 1 ≤ num e') from by
      ext e'; simp only [Finset.mem_filter, Finset.mem_univ, true_and, Finset.mem_insert]
      constructor
      · intro h
        by_cases hh : num e' = num e
        · exact Or.inl (num_inj hh)
        · exact Or.inr (by omega)
      · rintro (rfl | h) <;> omega,
    Finset.sum_insert (by simp), add_comm]
theorem tal_end (d : Dev nD) : tal d 108 = 0 := by
  unfold tal; rw [Finset.filter_false_of_mem (fun e _ => by have := num_lt e; omega), Finset.sum_empty]

theorem tal_pos {d : Dev nD} {n : ℕ} {g : GSem nD τ sig} {u : Unit} (h : 0 < tal d n g u) :
    ∃ e : Ex, n ≤ num e ∧ g = rCell (mate e d) e := by
  unfold tal at h
  rw [Finset.sum_apply, Finsupp.finset_sum_apply] at h
  obtain ⟨e, he, hp⟩ := Finset.exists_ne_zero_of_sum_ne_zero h.ne'
  refine ⟨e, (Finset.mem_filter.mp he).2, ?_⟩
  rw [tallyAt_apply] at hp
  by_contra hn
  exact hp (if_neg fun h' => hn h'.1)

def L (g : GSem nD τ sig) : Finset Unit := if g.1.2 = .tc then {()} else ∅
def lvK : Option Cix → ℕ
  | some none => 1
  | some (some (true, e)) => 2 + num e / 12
  | _ => 0
/-- The staging and send cells lowest, then the barrier, then the receive cells by round. -/
def lv (g : GSem nD τ sig) (_ : Unit) : ℕ := lvK (kindOf g.2)

theorem L_of_ne (g : GSem nD τ sig) (h : g.1.2 ≠ .tc) : L g = ∅ := if_neg h
theorem L_tc (d : Dev nD) (sm : SemLoc sig) : L ((d : Thread nD τ), sm) = {()} := if_pos rfl
theorem lv_kcell (d : Dev nD) (ix : Cix) : lv (kcell d ix) () = lvK (some ix) := by unfold lv; rw [kindOf_semOf]

theorem O₀_pos {d : Dev nD} {g : GSem nD τ sig} {u : Unit} (h : 0 < O₀ d g u) :
    (∃ e : Ex, g = rCell (mate e d) e) ∨ ∃ k, g = barCell (peer k d) := by
  by_contra hn
  rw [not_or, not_exists, not_exists] at hn
  have ht : tal d 0 g u = 0 := Nat.eq_zero_of_not_pos fun hp => by obtain ⟨e, -, he⟩ := tal_pos hp; exact hn.1 e he
  have hb : ∀ k, barTal d k g u = 0 := fun k => by unfold barTal; rw [tallyAt_apply]; exact if_neg fun h' => hn.2 k h'.1
  unfold O₀ at h
  simp only [Pi.add_apply, Finsupp.add_apply, ht, hb] at h
  exact Nat.lt_irrefl 0 h

/-- Waiting on a cell of a level below all that is owed. -/
theorem mayWait_of (d : Dev nD) (sm : SemLoc sig) (O : CellTallies nD τ sig Unit) (b : ℕ) (hb : lvK (kindOf sm) ≤ b)
    (hO : ∀ (g : GSem nD τ sig) (u : Unit), 0 < O g u → ∃ (d' : Dev nD) (ix : Cix), g = kcell d' ix ∧ b < lvK (some ix)) :
    (levAts L lv : sProp 𝕄) ⊢ MayWait (d : Thread nD τ) sm () O :=
  MayOwe.of_cut (L := L) (lev := lv) b (fun p hp => by rw [Finset.mem_singleton.mp hp, L_tc]; exact Finset.mem_singleton_self _)
    (fun g u hg => by obtain ⟨d', ix, rfl, -⟩ := hO g u hg; rw [L_tc]; exact Finset.mem_singleton_self _)
    (fun p hp => by rw [Finset.mem_singleton.mp hp]; exact hb)
    (fun g u hg => by obtain ⟨d', ix, rfl, h⟩ := hO g u hg; cases u; rw [lv_kcell]; exact h)

/-- A staging or send cell, whatever is owed of later sendings; -/
theorem mayWait_low (d : Dev nD) (sm : SemLoc sig) (hs : lvK (kindOf sm) = 0) (n : ℕ) :
    (levAts L lv : sProp 𝕄) ⊢ MayWait (d : Thread nD τ) sm () (tal d n) :=
  mayWait_of d sm _ 0 hs.le fun g u hg => by
    obtain ⟨e, -, rfl⟩ := tal_pos hg
    exact ⟨_, _, rfl, by simp only [lvK]; omega⟩
/-- a staging cell at the start; -/
theorem mayWait_start (d : Dev nD) (sm : SemLoc sig) (hs : lvK (kindOf sm) = 0) :
    (levAts L lv : sProp 𝕄) ⊢ MayWait (d : Thread nD τ) sm () (O₀ d) :=
  mayWait_of d sm _ 0 hs.le fun g u hg => by
    rcases O₀_pos hg with ⟨e, rfl⟩ | ⟨k, rfl⟩
    · exact ⟨_, _, rfl, by simp only [lvK]; omega⟩
    · exact ⟨_, _, rfl, by simp only [lvK]; omega⟩
/-- the barrier, all sendings owed; -/
theorem mayWait_bar (d : Dev nD) : (levAts L lv : sProp 𝕄) ⊢ MayWait (d : Thread nD τ) (semOf none) () (tal d 0) :=
  mayWait_of d _ _ 1 (by rw [kindOf_semOf]; exact le_rfl) fun g u hg => by
    obtain ⟨e, -, rfl⟩ := tal_pos hg
    exact ⟨_, _, rfl, by simp only [lvK]; omega⟩
/-- and a receive cell, owing only exchanges of later rounds. -/
theorem mayWait_recv (d : Dev nD) (e : Ex) (n : ℕ) (hn : 12 * (num e / 12 + 1) ≤ n) :
    (levAts L lv : sProp 𝕄) ⊢ MayWait (d : Thread nD τ) (semOf (some (true, e))) () (tal d n) :=
  mayWait_of d _ _ (2 + num e / 12) (by rw [kindOf_semOf]; exact le_rfl) fun g u hg => by
    obtain ⟨e', he', rfl⟩ := tal_pos hg
    exact ⟨_, _, rfl, by simp only [lvK]; omega⟩

end Cert.KernelIdeal.Ring

end
-- ==== Proof.KernelIdeal.Steps.lean ====
/-
  One exchange's steps: what the storing and sending of a chunk needs and leaves, what the two waits and the addition
  do, and the rules by which such steps are put one after another.
-/
module

public import proofs.«01_k».proof.Proof.KernelIdeal.Proto

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every step may use -/

/-- The cells' invariants, under the names `K`, and that each cell is at round 0 or past it; -/
def records (K : Dev nD × Cix → ℕ) : sProp 𝕄 :=
  iprop((bigSep Finset.univ fun p : Dev nD × Cix => cellInv ER (Rd m ρ) (K p) (kcell p.1 p.2))
    ∗ bigSep Finset.univ fun p : Dev nD × Cix => reached ER (kcell p.1 p.2) 0)
/-- with the levels. -/
def ctx (K : Dev nD × Cix → ℕ) : sProp 𝕄 := iprop(records m ρ K ∗ levAts L lv)

instance records_persistent (K : Dev nD × Cix → ℕ) : BI.Persistent (records m ρ K) := by unfold records; infer_instance
instance ctx_persistent (K : Dev nD × Cix → ℕ) : BI.Persistent (ctx m ρ K) := by unfold ctx; infer_instance

variable (K : Dev nD × Cix → ℕ)

theorem ctx_inv (d : Dev nD) (ix : Cix) : ctx m ρ K ⊢ cellInv ER (Rd m ρ) (K (d, ix)) (kcell d ix) := by
  have h : (bigSep Finset.univ fun p : Dev nD × Cix => (cellInv ER (Rd m ρ) (K p) (kcell p.1 p.2) : sProp 𝕄))
      ⊢ cellInv ER (Rd m ρ) (K (d, ix)) (kcell d ix) := bigSep_elim (Finset.mem_univ (d, ix))
  unfold ctx records
  iintro ⟨⟨H, -⟩, -⟩
  iapply h; iexact H
theorem ctx_reached (d : Dev nD) (ix : Cix) : ctx m ρ K ⊢ reached ER (kcell d ix) 0 := by
  have h : (bigSep Finset.univ fun p : Dev nD × Cix => (reached ER (kcell p.1 p.2) 0 : sProp 𝕄)) ⊢ reached ER (kcell d ix) 0 :=
    bigSep_elim (Finset.mem_univ (d, ix))
  unfold ctx records
  iintro ⟨⟨-, H⟩, -⟩
  iapply h; iexact H
theorem ctx_lev : ctx m ρ K ⊢ levAts L lv := by unfold ctx; iintro ⟨-, H⟩; iexact H

/-! ## Programs that compute a known value -/

/-- On device `d`, `p` run from `P` comes to an end at the value `v` with `Q`. -/
def Tr (d : Dev nD) {α : Type} (P : sProp 𝕄) (p : Prog (Eff F) α) (v : α) (Q : sProp 𝕄) : Prop :=
  ∀ Kt : α → sProp 𝕄, iprop(ctx m ρ K ∗ P ∗ (Q -∗ Kt v)) ⊢ wp frame (wpE (defs₀ (F := F)) 𝒱₀ (d : Thread nD τ) none) Set.univ p Kt

variable {m ρ K} {d : Dev nD}

theorem Tr.pure {α : Type} {P Q : sProp 𝕄} (v : α) (h : P ⊢ Q) : Tr m ρ K d P (Pure.pure v) v Q := fun Kt => by
  rw [Prog.pure_eq_ret, wp_ret]
  iintro ⟨-, HP, Hk⟩
  imodintro
  iapply Hk
  iapply h; iexact HP

theorem Tr.pure' {α : Type} {P Q : sProp 𝕄} {v w : α} (hv : v = w) (h : P ⊢ Q) : Tr m ρ K d P (Pure.pure v) w Q := hv ▸ Tr.pure v h

theorem Tr.bind {α β : Type} {P Q R : sProp 𝕄} {p : Prog (Eff F) α} {k : α → Prog (Eff F) β} {v : α} {w : β}
    (h : Tr m ρ K d P p v Q) (h' : Tr m ρ K d Q (k v) w R) : Tr m ρ K d P (p >>= k) w R := fun Kt => by
  rw [wp_bind]
  iintro ⟨#Hc, HP, Hk⟩
  iapply (h _)
  isplitr; · iexact Hc
  isplitl [HP]; · iexact HP
  iintro HQ
  iapply (h' _)
  isplitr; · iexact Hc
  isplitl [HQ]; · iexact HQ
  iexact Hk

theorem Tr.conseq {α : Type} {P P' Q Q' : sProp 𝕄} {p : Prog (Eff F) α} {v : α}
    (hP : P' ⊢ P) (h : Tr m ρ K d P p v Q) (hQ : Q ⊢ Q') : Tr m ρ K d P' p v Q' := fun Kt => by
  iintro ⟨#Hc, HP, Hk⟩
  iapply (h _)
  isplitr; · iexact Hc
  isplitl [HP]; · iapply hP; iexact HP
  iintro HQ
  iapply Hk
  iapply hQ; iexact HQ

theorem Tr.frame {α : Type} {P Q : sProp 𝕄} {p : Prog (Eff F) α} {v : α} (R : sProp 𝕄)
    (h : Tr m ρ K d P p v Q) : Tr m ρ K d iprop(P ∗ R) p v iprop(Q ∗ R) := fun Kt => by
  iintro ⟨#Hc, ⟨HP, HR⟩, Hk⟩
  iapply (h _)
  isplitr; · iexact Hc
  isplitl [HP]; · iexact HP
  iintro HQ
  iapply Hk
  isplitl [HQ] <;> iassumption

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A loop over the chunks, each going from `T c` to `T (c + 1)` and turning its `Φ c` into `Ψ c`; -/
theorem Tr.forC {A : Fin 3 → Type} {f : (c : Fin 3) → Prog (Eff F) (A c)} {v : (c : Fin 3) → A c} (T : ℕ → sProp 𝕄) {Φ Ψ : Fin 3 → sProp 𝕄}
    (h : ∀ c : Fin 3, Tr m ρ K d iprop(T c.val ∗ Φ c) (f c) (v c) iprop(T (c.val + 1) ∗ Ψ c)) :
    Tr m ρ K d iprop(T 0 ∗ bigSep Finset.univ Φ) (forC f) v iprop(T 3 ∗ bigSep Finset.univ Ψ) := by
  have h0 : Tr m ρ K d iprop(T 0 ∗ Φ 0) (f 0) (v 0) iprop(T 1 ∗ Ψ 0) := h 0
  have h1 : Tr m ρ K d iprop(T 1 ∗ Φ 1) (f 1) (v 1) iprop(T 2 ∗ Ψ 1) := h 1
  have h2 : Tr m ρ K d iprop(T 2 ∗ Φ 2) (f 2) (v 2) iprop(T 3 ∗ Ψ 2) := h 2
  unfold Ring.forC
  rw [bigSep_three, bigSep_three]
  refine Tr.bind (Q := iprop((T 1 ∗ Ψ 0) ∗ Φ 1 ∗ Φ 2)) ((Tr.frame _ h0).conseq ?_ .rfl) ?_
  · iintro ⟨HT, H0, H⟩
    isplitl [HT H0]; · isplitl [HT] <;> iassumption
    iexact H
  refine Tr.bind (Q := iprop((T 2 ∗ Ψ 1) ∗ Ψ 0 ∗ Φ 2)) ((Tr.frame _ h1).conseq ?_ .rfl) ?_
  · iintro ⟨⟨HT, HΨ⟩, H1, H2⟩
    isplitl [HT H1]; · isplitl [HT] <;> iassumption
    isplitl [HΨ] <;> iassumption
  refine Tr.bind (Q := iprop((T 3 ∗ Ψ 2) ∗ Ψ 0 ∗ Ψ 1)) ((Tr.frame _ h2).conseq ?_ .rfl) ?_
  · iintro ⟨⟨HT, HΨ1⟩, HΨ0, H2⟩
    isplitl [HT H2]; · isplitl [HT] <;> iassumption
    isplitl [HΨ0] <;> iassumption
  refine Tr.pure' (funext fun c => by fin_cases c <;> rfl) ?_
  iintro ⟨⟨HT, H2⟩, H0, H1⟩
  isplitl [HT]; · iexact HT
  isplitl [H0]; · iexact H0
  isplitl [H1] <;> iassumption

/-- and one over the strips. -/
theorem Tr.forS {A : Type} {f : Fin 4 → Prog (Eff F) A} {v : Fin 4 → A} (T : ℕ → sProp 𝕄) {Φ Ψ : Fin 4 → sProp 𝕄}
    (h : ∀ s : Fin 4, Tr m ρ K d iprop(T s.val ∗ Φ s) (f s) (v s) iprop(T (s.val + 1) ∗ Ψ s)) :
    Tr m ρ K d iprop(T 0 ∗ bigSep Finset.univ Φ) (forS f) v iprop(T 4 ∗ bigSep Finset.univ Ψ) := by
  have h0 : Tr m ρ K d iprop(T 0 ∗ Φ 0) (f 0) (v 0) iprop(T 1 ∗ Ψ 0) := h 0
  have h1 : Tr m ρ K d iprop(T 1 ∗ Φ 1) (f 1) (v 1) iprop(T 2 ∗ Ψ 1) := h 1
  have h2 : Tr m ρ K d iprop(T 2 ∗ Φ 2) (f 2) (v 2) iprop(T 3 ∗ Ψ 2) := h 2
  have h3 : Tr m ρ K d iprop(T 3 ∗ Φ 3) (f 3) (v 3) iprop(T 4 ∗ Ψ 3) := h 3
  unfold Ring.forS
  rw [bigSep_four, bigSep_four]
  refine Tr.bind (Q := iprop((T 1 ∗ Ψ 0) ∗ Φ 1 ∗ Φ 2 ∗ Φ 3)) ((Tr.frame _ h0).conseq ?_ .rfl) ?_
  · iintro ⟨HT, H0, H⟩
    isplitl [HT H0]; · isplitl [HT] <;> iassumption
    iexact H
  refine Tr.bind (Q := iprop((T 2 ∗ Ψ 1) ∗ Ψ 0 ∗ Φ 2 ∗ Φ 3)) ((Tr.frame _ h1).conseq ?_ .rfl) ?_
  · iintro ⟨⟨HT, HΨ⟩, H1, H2⟩
    isplitl [HT H1]; · isplitl [HT] <;> iassumption
    isplitl [HΨ] <;> iassumption
  refine Tr.bind (Q := iprop((T 3 ∗ Ψ 2) ∗ (Ψ 0 ∗ Ψ 1) ∗ Φ 3)) ((Tr.frame _ h2).conseq ?_ .rfl) ?_
  · iintro ⟨⟨HT, HΨ1⟩, HΨ0, H2, H3⟩
    isplitl [HT H2]; · isplitl [HT] <;> iassumption
    isplitl [HΨ0 HΨ1]; · isplitl [HΨ0] <;> iassumption
    iexact H3
  refine Tr.bind (Q := iprop((T 4 ∗ Ψ 3) ∗ Ψ 0 ∗ Ψ 1 ∗ Ψ 2)) ((Tr.frame _ h3).conseq ?_ .rfl) ?_
  · iintro ⟨⟨HT, HΨ2⟩, ⟨HΨ0, HΨ1⟩, H3⟩
    isplitl [HT H3]; · isplitl [HT] <;> iassumption
    isplitl [HΨ0]; · iexact HΨ0
    isplitl [HΨ1] <;> iassumption
  refine Tr.pure' (funext fun c => by fin_cases c <;> rfl) ?_
  iintro ⟨⟨HT, H3⟩, H0, H1, H2⟩
  isplitl [HT]; · iexact HT
  isplitl [H0]; · iexact H0
  isplitl [H1]; · iexact H1
  isplitl [H2] <;> iassumption

/-! ## An exchange's states -/

/-- The device owes the exchanges from the `n`th on. -/
def st (d : Dev nD) (n : ℕ) : sProp 𝕄 := iprop(∃ W : Waits sig Unit, owes (d : Thread nD τ) (tal d n) W)

/-- The exchange's send and receive cells as the device waits on them: its positions, with the peer's landing to come. -/
def waiting (d : Dev nD) (e : Ex) : sProp 𝕄 :=
  iprop(atPos ER (sCell d e) 0 ∅ 0 ∗ atPos ER (rCell d e) 0 ∅ 0 ∗ cred (tallyAt (rCell d e) () (credit e)))
/-- Not yet sent: the two duties the sending pays, the place it is sent from and the one it is sent to. -/
def ready (d : Dev nD) (e : Ex) : sProp 𝕄 :=
  iprop(dutyTok ER (sCell d e) 0 0 ∗ dutyTok ER (rCell (mate e d) e) 0 0 ∗ sHeld d e ∗ rHeld (mate e d) e ∗ waiting d e)
/-- Sent; -/
def flying (d : Dev nD) (e : Ex) : sProp 𝕄 := iprop(cred (tallyAt (sCell d e) () (credit e)) ∗ waiting d e)
/-- and over: both places the device's own, the two cells closed. -/
def over (d : Dev nD) (e : Ex) : sProp 𝕄 := iprop(sHeld d e ∗ rHeld d e ∗ semVal (sCell d e) 0 ∗ semVal (rCell d e) 0)

variable (m ρ K d)

/-- Reading a chunk's place is reading its buffer's rectangle, reshaped. -/
theorem read_piece (l r c : Fin 3) (M : Memref sig .tc .vmem (SB c) .f32) (f : M.view.ty.Contents (Elt F)) :
    (piece l r c M).view.read (Elt F) f = shapeCast (SC c) ((M.access (lrect l r c)).read (Elt F) f) (castLC c) := rfl
theorem set_piece (l r c : Fin 3) (M : Memref sig .tc .vmem (SB c) .f32) :
    (piece l r c M).view.set = (M.access (lrect l r c)).set := View.set_reshape _ _
theorem cast_cast (c : Fin 3) (v : FVec F (SC c) .f32) : shapeCast (SC c) (shapeCast (SL c) v (castCL c)) (castLC c) = v := by
  funext j
  show v (Shape.reshapeEquiv _ (Shape.reshapeEquiv _ j)) = v j
  rw [Shape.reshapeEquiv_reshapeEquiv, Shape.reshapeEquiv_self]

/-- The transfer of an exchange, the chunk stored. -/
theorem wp_send_ex (e : Ex) {α : Type} {Q : α → sProp 𝕄} {k : PUnit → Prog (Eff F) α}
    {hsc : (rV e).view.ref.isScScratch = false} {hsrc : (sV e).view.WordExact} {hdst : (rV e).view.WordExact}
    {hsem : DmaTarget.Typed .vmem (.dma (rS e)) (.remote (Dev.tc (mate e d) : Thread nD τ) (rV e) (.dma (sS e)) hsc)}
    (fs : Buf (Elt F) ((sV e).view.loc (d : Thread nD τ))) (hfs : (sV e).view.read (Elt F) fs = sent m ρ d e)
    (fd : Buf (Elt F) ((rV e).view.loc (mate e d : Thread nD τ))) (W : Waits sig Unit) :
    iprop(cellInv ER (Rd m ρ) (K (d, some (false, e))) (sCell d e) ∗ cellInv ER (Rd m ρ) (K (mate e d, some (true, e))) (rCell (mate e d) e)
        ∗ ((sV e).view.loc (d : Thread nD τ) ↦[(sV e).view.set]{fullShare} fs)
        ∗ ((rV e).view.loc (mate e d : Thread nD τ) ↦[(rV e).view.set]{fullShare} fd)
        ∗ owes (d : Thread nD τ) (tal d (num e)) W
        ∗ dutyTok ER (sCell d e) 0 0 ∗ reached ER (sCell d e) 0
        ∗ dutyTok ER (rCell (mate e d) e) 0 0 ∗ reached ER (rCell (mate e d) e) 0)
      ⊢ iprop(((cred (tallyAt (sCell d e) () (credit e)) ∗ owes (d : Thread nD τ) (tal d (num e + 1)) W)
            -∗ wp frame (wpE (defs₀ (F := F)) 𝒱₀ (d : Thread nD τ) none) Set.univ (k ⟨⟩) Q)
          -∗ wp frame (wpE (defs₀ (F := F)) 𝒱₀ (d : Thread nD τ) none) Set.univ
              (.op (.enqueueDma (sV e) (.remote (Dev.tc (mate e d) : Thread nD τ) (rV e) (.dma (sS e)) hsc) (.dma (rS e)) hsrc hdst hsem) k) Q) :=
  Rounds.wp_send_pointsTo 𝒱₀ ER (Rd m ρ) (d : Thread nD τ) none (κ₁ := K (d, some (false, e))) (κ₂ := K (mate e d, some (true, e)))
    (r₁ := 0) (r₂ := 0) (d₁ := 0) (d₂ := 0) (fd := fd)
    (show 0 ∈ (Rd m ρ).duties (sCell d e) 0 by rw [Rd_duties]; exact Finset.mem_singleton_self _)
    (show 0 ∈ (Rd m ρ).duties (rCell (mate e d) e) 0 by rw [Rd_duties]; exact Finset.mem_singleton_self _)
    () () (credit e) rfl (Rd_amount m ρ d (some (false, e)) 0) (Rd_amount m ρ (mate e d) (some (true, e)) 0)
    (tal d (num e + 1)) (tal_peel d e) (W := W)
    (by
      show _ ⊢ (Rd m ρ).payload (sCell d e) 0 0
      rw [Rd_payload]; unfold pay sHeld
      iintro H; iexists fs; iexact H)
    (by
      show _ ⊢ (Rd m ρ).payload (rCell (mate e d) e) 0 0
      rw [Rd_payload]; unfold pay landed
      iintro H
      iexists (rV e).view.write (Elt F) fd ((sV e).view.read (Elt F) fs) Finset.univ
      isplitr
      · ipureintro; rw [View.read_write_univ, hfs, mate_mate]
      · iexact H)

theorem rest_send (e : Ex) :
    (bigSep ((Rd m ρ).duties ((d : Thread nD τ), SemLoc.dma (sS e)) 0 \ ∅) fun k => (Rd m ρ).payload ((d : Thread nD τ), SemLoc.dma (sS e)) 0 k)
      ⊢ sHeld d e := Entails.of_eq (Rd_rest m ρ d false e)
theorem rest_recv (e : Ex) :
    (bigSep ((Rd m ρ).duties ((d : Thread nD τ), SemLoc.dma (rS e)) 0 \ ∅) fun k => (Rd m ρ).payload ((d : Thread nD τ), SemLoc.dma (rS e)) 0 k)
      ⊢ landed m ρ d e := Entails.of_eq (Rd_rest m ρ d true e)

/-- Storing and sending: from `ready` to `flying`, one sending less owed. -/
theorem issue_spec (l r : Fin 3) (s : Fin 4) (c : Fin 3) :
    Tr m ρ K d iprop(st d (num (l, r, s, c)) ∗ ready d (l, r, s, c)) (issue d l r s c (sent m ρ d (l, r, s, c))) ⟨⟩
      iprop(st d (num (l, r, s, c) + 1) ∗ flying d (l, r, s, c)) := fun Kt => by
  unfold issue st ready flying sHeld rHeld
  simp only [Prog.lift, Prog.bind_op, Prog.bind_ret]
  iintro ⟨#Hc, ⟨⟨%W, HO⟩, HtS, HtR, ⟨%f0, Hs⟩, ⟨%fd, Hr⟩, Hw⟩, Hk⟩
  iapply (wp_load_rect 𝒱₀ (d : Thread nD τ) none Set.univ (m := sM s c) (r := lrect l r c) (set_piece l r c (sM s c)).ge) $$ Hs
  iintro Hs
  iapply (wp_store 𝒱₀ (d : Thread nD τ) none Set.univ (m := sM s c) (r := lrect l r c) (Mk := Finset.univ) (set_piece l r c (sM s c)).ge) $$ Hs
  iintro Hs
  iapply (wp_send_ex m ρ K d (l, r, s, c)
    (((sM s c).access (lrect l r c)).write (Elt F) f0 (shapeCast (SL c) (sent m ρ d (l, r, s, c)) (castCL c)) Finset.univ)
    (by rw [read_piece, View.read_write_univ, cast_cast]) fd W) $$ [Hs Hr HO HtS HtR]
  · isplitr; · iapply (ctx_inv m ρ K d (some (false, (l, r, s, c)))); iexact Hc
    isplitr; · iapply (ctx_inv m ρ K (mate (l, r, s, c) d) (some (true, (l, r, s, c)))); iexact Hc
    isplitl [Hs]; · iexact Hs
    isplitl [Hr]; · iexact Hr
    isplitl [HO]; · iexact HO
    isplitl [HtS]; · iexact HtS
    isplitr; · iapply (ctx_reached m ρ K d (some (false, (l, r, s, c)))); iexact Hc
    isplitl [HtR]; · iexact HtR
    iapply (ctx_reached m ρ K (mate (l, r, s, c) d) (some (true, (l, r, s, c)))); iexact Hc
  iintro ⟨HcS, HO⟩
  rw [wp_ret]; imodintro
  iapply Hk
  isplitl [HO]; · iexists W; iexact HO
  isplitl [HcS]; · iexact HcS
  iexact Hw

/-- The two waits and the addition: from `flying` to `over`, at the chunk's next value. -/
theorem finish_spec (l r : Fin 3) (s : Fin 4) (c : Fin 3) (n : ℕ) (hn : 12 * (num (l, r, s, c) / 12 + 1) ≤ n) :
    Tr m ρ K d iprop(st d n ∗ flying d (l, r, s, c)) (finish l r s c (chunkAt m ρ l r.val d s c)) (chunkAt m ρ l (r.val + 1) d s c)
      iprop(st d n ∗ over d (l, r, s, c)) := fun Kt => by
  unfold finish st flying waiting
  simp only [Prog.lift, Prog.bind_op, Prog.bind_ret]
  iintro ⟨#Hc, ⟨⟨%W, HO⟩, HcS, HaS, HaR, HcR⟩, Hk⟩
  iapply (Rounds.wp_wait_rest_token 𝒱₀ ER (Rd m ρ) (d : Thread nD τ) none (κ := K (d, some (false, (l, r, s, c))))
      (wpE_waitDma2_eq 𝒱₀ (d : Thread nD τ) none Set.univ) (Set.mem_univ _) () (O := tal d n) (W := W) (R := 0) (m := 0) (T := ∅)
      ((Nat.zero_add _).trans ((credit_send (l, r, s, c)).trans (Rd_expect m ρ d false (l, r, s, c)).symm))) $$ [HcS HO HaS]
  · isplitr; · iapply (ctx_inv m ρ K d (some (false, (l, r, s, c)))); iexact Hc
    isplitl [HcS]; · rw [credit_send (l, r, s, c)]; iexact HcS
    isplitl [HO]; · iexact HO
    isplitr
    · iapply (mayWait_low d (semOf (some (false, (l, r, s, c)))) (by rw [kindOf_semOf]; rfl) n)
      iapply (ctx_lev m ρ K); iexact Hc
    iexact HaS
  iintro ⟨HO, HaS, -, Hp⟩
  ihave Hs := (rest_send m ρ d (l, r, s, c)) $$ Hp
  iapply (Rounds.wp_wait_rest_token 𝒱₀ ER (Rd m ρ) (d : Thread nD τ) none (κ := K (d, some (true, (l, r, s, c))))
      (wpE_waitDma2_eq 𝒱₀ (d : Thread nD τ) none Set.univ) (Set.mem_univ _) () (O := tal d n) (R := 0) (m := 0) (T := ∅)
      ((Nat.zero_add _).trans (Rd_expect m ρ d true (l, r, s, c)).symm)) $$ [HcR HO HaR]
  · isplitr; · iapply (ctx_inv m ρ K d (some (true, (l, r, s, c)))); iexact Hc
    isplitl [HcR]; · iexact HcR
    isplitl [HO]; · iexact HO
    isplitr
    · iapply (mayWait_recv d (l, r, s, c) n hn)
      iapply (ctx_lev m ρ K); iexact Hc
    iexact HaR
  iintro ⟨HO, HaR, -, Hp⟩
  ihave Hr := (rest_recv m ρ d (l, r, s, c)) $$ Hp
  unfold landed
  icases Hr with ⟨%f, %hf, Hr⟩
  imod (Rounds.cell_close ER (Rd m ρ) (Set.mem_univ (K (d, some (false, (l, r, s, c))))) (fun h => h) (R := 0 + 1) (Rd_later m ρ (sCell d (l, r, s, c)))) $$ [HaS] with HzS
  · isplitr; · iapply (ctx_inv m ρ K d (some (false, (l, r, s, c)))); iexact Hc
    iexact HaS
  imod (Rounds.cell_close ER (Rd m ρ) (Set.mem_univ (K (d, some (true, (l, r, s, c))))) (fun h => h) (R := 0 + 1) (Rd_later m ρ (rCell d (l, r, s, c)))) $$ [HaR] with HzR
  · isplitr; · iapply (ctx_inv m ρ K d (some (true, (l, r, s, c)))); iexact Hc
    iexact HaR
  iapply (wp_load_rect 𝒱₀ (d : Thread nD τ) none Set.univ (m := rM s c) (r := lrect l r c) (set_piece l r c (rM s c)).ge) $$ Hr
  iintro Hr
  rw [Prog.pure_eq_ret, wp_ret]; imodintro
  have hv : addf (chunkAt m ρ l r.val d s c) (shapeCast (SC c) (((rM s c).access (lrect l r c)).read (Elt F) f) (castLC c))
      = chunkAt m ρ l (r.val + 1) d s c := by
    rw [chunkAt_succ, ← read_piece, hf]; rfl
  rw [hv]
  iapply Hk
  isplitl [HO]; · iexists _; iexact HO
  unfold over
  isplitl [Hs]; · iexact Hs
  isplitl [Hr]; · unfold rHeld; iexists f; iexact Hr
  isplitl [HzS] <;> iassumption

end Cert.KernelIdeal.Ring

end
-- ==== Proof.KernelIdeal.Body.lean ====
/-
  The kernel's body, from what a device holds at the start to what it holds at the end: the handshake, then the rounds,
  each a loop of the same step, then the storing of the result.
-/
module

public import proofs.«01_k».proof.Proof.KernelIdeal.Steps
public import Idealize.ShloMosaic.Lib.VecWindow
public import Idealize.ShloMosaic.Lib.Pipeline.Value
public import Idealize.ShloMosaic.Lib.Pointwise.Index

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cix → ℕ) (d : Dev nD)

/-! ## What is staged -/

/-- A memref's elements held, reading `v`. -/
abbrev holds {s : Shape} (M : Memref sig .tc .vmem s .f32) (d : Dev nD) (v : s.Idx → Elt F .f32) : sProp 𝕄 :=
  iprop(∃ f : Buf (Elt F) (M.view.loc (d : Thread nD τ)), ⌜M.view.read (Elt F) f = v⌝ ∗ M.view.loc (d : Thread nD τ) ↦[M.view.set]{fullShare} f)
def xHeld (d : Dev nD) : sProp 𝕄 := holds xM d (xv m ρ d)
def wHeld (d : Dev nD) (l : Fin 3) : sProp 𝕄 := iprop(holds (winM l) d (wiv m ρ d l) ∗ holds (woutM l) d (wov m ρ d l))

/-- The strip loaded goes through the layer's weights. -/
theorem gemm_spec (l : Fin 3) (x : FVec F S128x256 .f32) (R : sProp 𝕄) :
    Tr m ρ K d iprop(R ∗ wHeld m ρ d l) (gemm l x) (cut (layerVal x (wiv m ρ d l) (wov m ρ d l))) iprop(R ∗ wHeld m ρ d l) := fun Kt => by
  unfold gemm wHeld
  simp only [Prog.lift, Prog.bind_op, Prog.bind_ret]
  iintro ⟨#Hc, ⟨HR, ⟨%f, %hf, Hi⟩, ⟨%g, %hg, Ho⟩⟩, Hk⟩
  iapply (wp_load 𝒱₀ (d : Thread nD τ) none Set.univ (m := winM l) (View.setOn_subset_set _ _)) $$ Hi; iintro Hi
  iapply (wp_load 𝒱₀ (d : Thread nD τ) none Set.univ (m := woutM l) (View.setOn_subset_set _ _)) $$ Ho; iintro Ho
  rw [Prog.pure_eq_ret, wp_ret]; imodintro
  rw [show (winM l).view.readAt (Elt F) (Rect.unit (s := S256x512) ![0, 0] S256x512.size inb_S256x512_S256x512_0_0).toLoadRect f = wiv m ρ d l from
      (View.readAt_full (winM l).view f inb_S256x512_S256x512_0_0).trans hf,
    show (woutM l).view.readAt (Elt F) (Rect.unit (s := S512x256) ![0, 0] S512x256.size inb_S512x256_S512x256_0_0).toLoadRect g = wov m ρ d l from
      (View.readAt_full (woutM l).view g inb_S512x256_S512x256_0_0).trans hg]
  iapply Hk
  isplitl [HR]; · iexact HR
  isplitl [Hi]
  · iexists f; isplitr; · ipureintro; exact hf
    iexact Hi
  · iexists g; isplitr; · ipureintro; exact hg
    iexact Ho

/-! ## The rounds -/

/-- All exchanges of layer `l` and round `r`. -/
def grp (Φ : Ex → sProp 𝕄) (l r : Fin 3) : sProp 𝕄 :=
  bigSep Finset.univ fun s : Fin 4 => bigSep Finset.univ fun c : Fin 3 => Φ (l, r, s, c)

theorem grp_sep (Φ Ψ : Ex → sProp 𝕄) (l r l' r' : Fin 3) :
    iprop(grp Φ l r ∗ grp Ψ l' r')
      = bigSep Finset.univ fun s : Fin 4 => bigSep Finset.univ fun c : Fin 3 => iprop(Φ (l, r, s, c) ∗ Ψ (l', r', s, c)) := by
  unfold grp
  rw [← bigSep_sep']
  exact bigSep_congr fun s _ => (bigSep_sep' _ _ _).symm

theorem st_eq {n n' : ℕ} (h : n = n') : (st d n : sProp 𝕄) ⊢ st d n' := by subst h; exact .rfl

/-- One layer's first sending, the parts given. -/
theorem issues_spec (l : Fin 3) (s : Fin 4) (R : sProp 𝕄) :
    Tr m ρ K d iprop((st d (36 * l.val + 3 * s.val) ∗ R) ∗ bigSep Finset.univ fun c : Fin 3 => ready d (l, 0, s, c))
      (forC fun c => issue d l 0 s c (chunkAt m ρ l 0 d s c)) (fun _ => ⟨⟩)
      iprop((st d (36 * l.val + 3 * (s.val + 1)) ∗ R) ∗ bigSep Finset.univ fun c : Fin 3 => flying d (l, 0, s, c)) := by
  refine Tr.conseq ?_ (Tr.forC (T := fun n => iprop(st d (36 * l.val + 3 * s.val + n) ∗ R)) (Φ := fun c => ready d (l, 0, s, c))
    (Ψ := fun c => flying d (l, 0, s, c)) fun c => ?_) ?_
  · exact .rfl
  · refine Tr.conseq ?_ (Tr.frame R (issue_spec m ρ K d l 0 s c)) ?_
    · iintro ⟨⟨H, HR⟩, Hr⟩
      isplitr [HR]
      · isplitl [H]
        · iapply (st_eq d (show 36 * l.val + 3 * s.val + c.val = num (l, 0, s, c) from by simp only [num]; rfl)); iexact H
        · iexact Hr
      · iexact HR
    · iintro ⟨⟨H, Hr⟩, HR⟩
      isplitr [Hr]
      · isplitl [H]
        · iapply (st_eq d (show num (l, 0, s, c) + 1 = 36 * l.val + 3 * s.val + (c.val + 1) from by simp only [num]; rfl)); iexact H
        · iexact HR
      · iexact Hr
  · iintro ⟨⟨H, HR⟩, Hr⟩
    isplitr [Hr]
    · isplitl [H]
      · iapply (st_eq d (show 36 * l.val + 3 * s.val + 3 = 36 * l.val + 3 * (s.val + 1) from by omega)); iexact H
      · iexact HR
    · iexact Hr

theorem first_spec :
    Tr m ρ K d iprop((st d 0 ∗ xHeld m ρ d ∗ wHeld m ρ d 0) ∗ grp (ready d) 0 0) (forS fun s => first d s) (chunkAt m ρ 0 0 d)
      iprop((st d 12 ∗ xHeld m ρ d ∗ wHeld m ρ d 0) ∗ grp (flying d) 0 0) := by
  refine Tr.forS (T := fun n => iprop(st d (36 * (0 : Fin 3).val + 3 * n) ∗ xHeld m ρ d ∗ wHeld m ρ d 0)) fun s => ?_
  unfold first
  have hx : Tr m ρ K d iprop((st d (36 * (0 : Fin 3).val + 3 * s.val) ∗ xHeld m ρ d ∗ wHeld m ρ d 0) ∗ bigSep Finset.univ fun c : Fin 3 => ready d (0, 0, s, c))
      (Prog.lift (.load xM (xrect s).toLoadRect (View.loadsAt_vmem h_S128x256))) (xM.view.readAt (Elt F) (xrect s).toLoadRect (xv m ρ d))
      iprop((st d (36 * (0 : Fin 3).val + 3 * s.val) ∗ xHeld m ρ d ∗ wHeld m ρ d 0) ∗ bigSep Finset.univ fun c : Fin 3 => ready d (0, 0, s, c)) := fun Kt => by
    unfold xHeld
    simp only [Prog.lift]
    iintro ⟨#Hc, ⟨⟨H, ⟨%f, %hf, Hx⟩, Hw⟩, Hr⟩, Hk⟩
    iapply (wp_load 𝒱₀ (d : Thread nD τ) none Set.univ (m := xM) (View.setOn_subset_set _ _)) $$ Hx; iintro Hx
    have hf' : f = xv m ρ d := by rw [← hf]; exact (View.read_whole (Val := Elt F) cc0_stg0_0 f).symm
    subst hf'
    rw [wp_ret]; imodintro
    iapply Hk
    isplitr [Hr]
    · isplitl [H]; · iexact H
      isplitl [Hx]
      · iexists (xv m ρ d); isplitr; · ipureintro; exact hf
        iexact Hx
      · iexact Hw
    · iexact Hr
  refine Tr.bind hx ?_
  refine Tr.bind (Tr.conseq ?_ (gemm_spec m ρ K d 0 (strip (xv m ρ d) s)
    iprop((st d (36 * (0 : Fin 3).val + 3 * s.val) ∗ xHeld m ρ d) ∗ bigSep Finset.univ fun c : Fin 3 => ready d (0, 0, s, c))) .rfl) ?_
  · iintro ⟨⟨H, Hx, Hw⟩, Hr⟩
    isplitr [Hw]
    · isplitr [Hr]
      · isplitl [H] <;> iassumption
      · iexact Hr
    · iexact Hw
  refine Tr.bind (Tr.conseq ?_ (issues_spec m ρ K d 0 s iprop(xHeld m ρ d ∗ wHeld m ρ d 0)) .rfl) (Tr.pure _ .rfl)
  iintro ⟨⟨⟨H, Hx⟩, Hr⟩, Hw⟩
  isplitr [Hr]
  · isplitl [H]; · iexact H
    isplitl [Hx] <;> iassumption
  · iexact Hr

theorem round_spec (l r r' : Fin 3) (hr : r'.val = r.val + 1) :
    Tr m ρ K d iprop(st d (36 * l.val + 12 * r'.val) ∗ grp (flying d) l r ∗ grp (ready d) l r') (round d l r r' (chunkAt m ρ l r.val d)) (chunkAt m ρ l r'.val d)
      iprop(st d (36 * l.val + 12 * (r'.val + 1)) ∗ grp (over d) l r ∗ grp (flying d) l r') := by
  rw [grp_sep, grp_sep]
  unfold round
  refine Tr.conseq .rfl (Tr.forS (T := fun n => st d (36 * l.val + 12 * r'.val + 3 * n))
    (Ψ := fun s => bigSep Finset.univ fun c : Fin 3 => iprop(over d (l, r, s, c) ∗ flying d (l, r', s, c))) fun s => ?_) ?_
  · refine Tr.conseq .rfl (Tr.forC (T := fun n => st d (36 * l.val + 12 * r'.val + 3 * s.val + n))
      (Ψ := fun c => iprop(over d (l, r, s, c) ∗ flying d (l, r', s, c))) fun c => ?_) ?_
    · have h1 := Tr.frame (ready d (l, r', s, c)) (finish_spec m ρ K d l r s c (num (l, r', s, c))
        (by have := r.isLt; have := s.isLt; have := c.isLt; simp only [num]; omega))
      have h2 := Tr.frame (over d (l, r, s, c)) (issue_spec m ρ K d l r' s c)
      rw [← hr] at h1
      refine Tr.bind (Tr.conseq ?_ h1 ?_) (Tr.bind h2 (Tr.pure _ ?_))
      · iintro ⟨H, Hf, Hr⟩
        isplitr [Hr]
        · isplitl [H]
          · iapply (st_eq d (show 36 * l.val + 12 * r'.val + 3 * s.val + c.val = num (l, r', s, c) from rfl)); iexact H
          · iexact Hf
        · iexact Hr
      · iintro ⟨⟨H, Ho⟩, Hr⟩
        isplitr [Ho]
        · isplitl [H] <;> iassumption
        · iexact Ho
      · iintro ⟨⟨H, Hf⟩, Ho⟩
        isplitl [H]
        · iapply (st_eq d (show num (l, r', s, c) + 1 = 36 * l.val + 12 * r'.val + 3 * s.val + (c.val + 1) from rfl)); iexact H
        isplitl [Ho] <;> iassumption
    · iintro ⟨H, Hr⟩
      isplitl [H]
      · iapply (st_eq d (show 36 * l.val + 12 * r'.val + 3 * s.val + 3 = 36 * l.val + 12 * r'.val + 3 * (s.val + 1) from by omega)); iexact H
      · iexact Hr
  · iintro ⟨H, Hr⟩
    isplitl [H]
    · iapply (st_eq d (show 36 * l.val + 12 * r'.val + 3 * 4 = 36 * l.val + 12 * (r'.val + 1) from by omega)); iexact H
    · iexact Hr

/-- The last round's waits of one strip. -/
theorem finishes_spec (l : Fin 3) (s : Fin 4) (n : ℕ) (hn : 36 * (l.val + 1) ≤ n) :
    Tr m ρ K d iprop(st d n ∗ bigSep Finset.univ fun c : Fin 3 => flying d (l, 2, s, c)) (forC fun c => finish l 2 s c (chunkAt m ρ l 2 d s c)) (chunkAt m ρ l 3 d s)
      iprop(st d n ∗ bigSep Finset.univ fun c : Fin 3 => over d (l, 2, s, c)) :=
  Tr.forC (T := fun _ => st d n) fun c => finish_spec m ρ K d l 2 s c n (by
    have := s.isLt; have := c.isLt; simp only [num]
    have h2 : (2 : Fin 3).val = 2 := rfl
    omega)

theorem next_spec (l l' : Fin 3) (hl : l'.val = l.val + 1) :
    Tr m ρ K d iprop((st d (36 * l'.val) ∗ wHeld m ρ d l') ∗ grp (flying d) l 2 ∗ grp (ready d) l' 0) (next d l l' (chunkAt m ρ l 2 d)) (chunkAt m ρ l' 0 d)
      iprop((st d (36 * l'.val + 12) ∗ wHeld m ρ d l') ∗ grp (over d) l 2 ∗ grp (flying d) l' 0) := by
  unfold grp next
  rw [← bigSep_sep', ← bigSep_sep']
  refine Tr.forS (T := fun n => iprop(st d (36 * l'.val + 3 * n) ∗ wHeld m ρ d l')) fun s => ?_
  have h1 := Tr.frame iprop(wHeld m ρ d l' ∗ bigSep Finset.univ fun c : Fin 3 => ready d (l', 0, s, c))
    (finishes_spec m ρ K d l s (36 * l'.val + 3 * s.val) (by omega))
  have h2 := gemm_spec m ρ K d l' (glue (chunkAt m ρ l 3 d s))
    iprop((st d (36 * l'.val + 3 * s.val) ∗ bigSep Finset.univ fun c : Fin 3 => over d (l, 2, s, c)) ∗ bigSep Finset.univ fun c : Fin 3 => ready d (l', 0, s, c))
  rw [← layers_succ, ← hl, ← chunkAt_zero] at h2
  have h3 := Tr.frame (bigSep Finset.univ fun c : Fin 3 => over d (l, 2, s, c)) (issues_spec m ρ K d l' s (wHeld m ρ d l'))
  refine Tr.bind (Tr.conseq ?_ h1 ?_) (Tr.bind (v := chunkAt m ρ l' 0 d s) (by rw [← layers_succ, ← hl]; exact h2) (Tr.bind (Tr.conseq ?_ h3 .rfl) (Tr.pure _ ?_)))
  · iintro ⟨⟨H, Hw⟩, Hf, Hr⟩
    isplitl [H Hf]; · isplitl [H] <;> iassumption
    isplitl [Hw] <;> iassumption
  · iintro ⟨⟨H, Ho⟩, Hw, Hr⟩
    isplitr [Hw]
    · isplitr [Hr]
      · isplitl [H] <;> iassumption
      · iexact Hr
    · iexact Hw
  · iintro ⟨⟨⟨H, Ho⟩, Hr⟩, Hw⟩
    isplitr [Ho]
    · isplitr [Hr]
      · isplitl [H] <;> iassumption
      · iexact Hr
    · iexact Ho
  · iintro ⟨⟨⟨H, Hw⟩, Hf⟩, Ho⟩
    isplitl [H Hw]
    · isplitl [H] <;> iassumption
    · isplitl [Ho] <;> iassumption

theorem last_spec :
    Tr m ρ K d iprop(st d 108 ∗ grp (flying d) 2 2) (last (chunkAt m ρ 2 2 d)) (chunkAt m ρ 2 3 d) iprop(st d 108 ∗ grp (over d) 2 2) :=
  Tr.forS (T := fun _ => st d 108) fun s => finishes_spec m ρ K d 2 s 108 (by decide)

/-! ## The result -/

/-- A strip put together is its chunk at the chunk's rows. -/
theorem glue_at (v : Chunks F) (c : Fin 3) (j : (SC c).Idx) (i : S128x256.Idx) (h0 : (i 0).val = offs c + (j 0).val) (h1 : (i 1).val = (j 1).val) :
    glue v i = v c j := by
  unfold glue
  have key : ∀ (k : Fin 3) (x : (SC k).Idx → Elt F .f32) (j : (SC k).Idx) (hk : k.val < 3)
      (hx : ([⟨S48x256, v 0⟩, ⟨S40x256, v 1⟩, ⟨S40x256, v 2⟩] : List ((s : Shape) × (s.Idx → Elt F .f32)))[k.val] = ⟨SC k, x⟩)
      (hp : (((([⟨S48x256, v 0⟩, ⟨S40x256, v 1⟩, ⟨S40x256, v 2⟩] : List ((s : Shape) × (s.Idx → Elt F .f32))).take k.val).map (·.1)).map
        fun s => if h : s.rank = S128x256.rank then s.size ((0 : Fin S128x256.rank).cast h.symm) else 0).sum = offs k)
      (h0 : (i 0).val = offs k + (j 0).val) (h1 : (i 1).val = (j 1).val),
      concatenate S128x256 0 [⟨S48x256, v 0⟩, ⟨S40x256, v 1⟩, ⟨S40x256, v 2⟩] concatenates_S48x256_S40x256_S40x256_S128x256_d0 i = x j := by
    intro k x j hk hx hp h0 h1
    exact concatenate_apply_piece (0 : Fin S128x256.rank) [⟨S48x256, v 0⟩, ⟨S40x256, v 1⟩, ⟨S40x256, v 2⟩] concatenates_S48x256_S40x256_S40x256_S128x256_d0 i k.val hk (SC k) x hx rfl (offs k) hp j
      (fun b hb => by
        have : b = 1 := by
          rcases b with ⟨_ | _ | b, hb'⟩
          · exact absurd rfl hb
          · rfl
          · exact absurd hb' (by show ¬ b + 1 + 1 < 2; omega)
        subst this; exact h1.symm)
      h0.symm
  fin_cases c
  · exact key 0 _ j (by decide) rfl rfl h0 h1
  · exact key 1 _ j (by decide) rfl rfl h0 h1
  · exact key 2 _ j (by decide) rfl rfl h0 h1

/-- Device `d`'s result: row by row the strip it lies in. -/
def outAt (d : Dev nD) : Vec F S512x256 .f32 := fun i =>
  layers m ρ 3 d ⟨(i 0).val / 128, Nat.div_lt_of_lt_mul (i 0).isLt⟩
    (ix2 (⟨(i 0).val % 128, Nat.mod_lt _ (by decide)⟩ : Fin 128) (⟨(i 1).val, (i 1).isLt⟩ : Fin 256))

/-- The result's buffer with the first `n` chunks stored. -/
def outHeld (d : Dev nD) (n : ℕ) : sProp 𝕄 :=
  iprop(∃ g : Buf (Elt F) (oM.view.loc (d : Thread nD τ)),
    ⌜∀ (s : Fin 4) (c : Fin 3), 3 * s.val + c.val < n → (oM.access (orect s c)).read (Elt F) g = chunkAt m ρ 2 3 d s c⌝
      ∗ oM.view.loc (d : Thread nD τ) ↦[oM.view.set]{fullShare} g)

/-- An index of the result lies in the rectangle of its strip and chunk only. -/
theorem row_orect (s : Fin 4) (c : Fin 3) (j : (SC c).Idx) : (((orect s c).emb j) 0).val = 128 * s.val + offs c + (j 0).val := by
  show 128 * s.val + offs c + 1 * (j 0).val = _; omega
theorem col_orect (s : Fin 4) (c : Fin 3) (j : (SC c).Idx) : (((orect s c).emb j) 1).val = (j 1).val := by
  show 0 + 1 * (j 1).val = _; omega

theorem chunk_rows (s s' : Fin 4) (c c' : Fin 3) (a b : ℕ) (ha : a < rows c) (hb : b < rows c')
    (h : 128 * s.val + offs c + a = 128 * s'.val + offs c' + b) : 3 * s.val + c.val = 3 * s'.val + c'.val := by
  have := offs_rows c; have := offs_rows c'
  have hs : s.val = s'.val := by omega
  have hc : ∀ c c' : Fin 3, c.val < c'.val → offs c + rows c ≤ offs c' := by decide
  have h1 := hc c c'; have h2 := hc c' c
  omega

theorem read_other (s s' : Fin 4) (c c' : Fin 3) (hne : 3 * s.val + c.val ≠ 3 * s'.val + c'.val) (g : Buf (Elt F) (oM.view.loc (d : Thread nD τ))) (w : (SC c').Idx → Elt F .f32) :
    (oM.access (orect s c)).read (Elt F) ((oM.access (orect s' c')).write (Elt F) g w Finset.univ) = (oM.access (orect s c)).read (Elt F) g := by
  funext j
  refine View.read_slice_write_of_not_mem (v := oM.view) (Val := Elt F) (orect s' c') g w Finset.univ (y := (orect s c).emb j) fun hm => ?_
  obtain ⟨j', -, hj'⟩ := Finset.mem_map.mp hm
  have := congrArg (fun i : S512x256.Idx => (i 0).val) hj'
  simp only [row_orect] at this
  exact hne (chunk_rows s s' c c' _ _ (j 0).isLt (j' 0).isLt this.symm)

theorem put_spec (s : Fin 4) (c : Fin 3) :
    Tr m ρ K d (outHeld m ρ d (3 * s.val + c.val)) (put s c (chunkAt m ρ 2 3 d s c)) ⟨⟩ (outHeld m ρ d (3 * s.val + c.val + 1)) := fun Kt => by
  unfold put outHeld
  simp only [Prog.lift, Prog.bind_op, Prog.bind_ret]
  iintro ⟨#Hc, ⟨%g, %hg, Ho⟩, Hk⟩
  iapply (wp_load 𝒱₀ (d : Thread nD τ) none Set.univ (m := oM) (View.setOn_subset_set _ _)) $$ Ho; iintro Ho
  iapply (wp_store 𝒱₀ (d : Thread nD τ) none Set.univ (m := oM) (r := orect s c) (Mk := Finset.univ) (View.set_slice_subset oM.view _)) $$ Ho; iintro Ho
  rw [wp_ret]; imodintro
  iapply Hk
  iexists _
  isplitr [Ho]
  swap; · iexact Ho
  ipureintro
  intro s' c' h
  by_cases he : 3 * s'.val + c'.val = 3 * s.val + c.val
  · have h1 : s' = s := Fin.ext (by have := c.isLt; have := c'.isLt; omega)
    have h2 : c' = c := Fin.ext (by subst h1; omega)
    subst h1; subst h2
    exact View.read_write_univ _ _
  · rw [read_other d s' s c' c he]; exact hg s' c' (by omega)

theorem puts_spec :
    Tr m ρ K d (outHeld m ρ d 0) (forS fun s => forC fun c => put s c (chunkAt m ρ 2 3 d s c)) (fun _ _ => ⟨⟩) (outHeld m ρ d 12) := by
  refine Tr.conseq ?_ (Tr.forS (T := fun n => outHeld m ρ d (3 * n)) (Φ := fun _ => iprop(emp)) (Ψ := fun _ => iprop(emp)) fun s => ?_) ?_
  · rw [bigSep_four]; iintro H
    isplitl [H]; · iexact H
    isplitl; · iempintro
    isplitl; · iempintro
    isplitl <;> iempintro
  · refine Tr.conseq ?_ (Tr.forC (T := fun n => outHeld m ρ d (3 * s.val + n)) (Φ := fun _ => iprop(emp)) (Ψ := fun _ => iprop(emp)) fun c => ?_) ?_
    · rw [bigSep_three]; iintro ⟨H, -⟩
      isplitl [H]; · iexact H
      isplitl; · iempintro
      isplitl <;> iempintro
    · exact Tr.frame _ (put_spec m ρ K d s c)
    · iintro ⟨H, -⟩
      isplitl [H]; · iexact H
      iempintro
  · iintro ⟨H, -⟩; iexact H

/-- All chunks stored, the buffer is the result. -/
theorem out_eq (g : Buf (Elt F) (oM.view.loc (d : Thread nD τ)))
    (h : ∀ (s : Fin 4) (c : Fin 3), 3 * s.val + c.val < 12 → (oM.access (orect s c)).read (Elt F) g = chunkAt m ρ 2 3 d s c) : g = outAt m ρ d := by
  funext i
  have key : ∀ (s : Fin 4) (c : Fin 3) (j : (SC c).Idx) (i : S512x256.Idx), i = (orect s c).emb j → g i = outAt m ρ d i := by
    rintro s c j i rfl
    have e := congrFun (h s c (by have := s.isLt; have := c.isLt; omega)) j
    have hj : (j 0).val < rows c := (j 0).isLt
    have hr := offs_rows c
    have hs : (⟨(((orect s c).emb j) 0).val / 128, Nat.div_lt_of_lt_mul (((orect s c).emb j) 0).isLt⟩ : Fin 4) = s := Fin.ext (by
      show (((orect s c).emb j) 0).val / 128 = s.val
      rw [row_orect]; omega)
    refine (show g ((orect s c).emb j) = _ from e).trans ?_
    unfold outAt
    rw [hs]
    refine (((congrFun (layers_succ m ρ 2 d s) _).trans (glue_at (chunkAt m ρ 2 3 d s) c j _ ?_ ?_))).symm
    · show (((orect s c).emb j) 0).val % 128 = _
      rw [row_orect]; omega
    · exact col_orect s c j
  have hi0 : ((i : S512x256.Idx) 0).val < 512 := ((i : S512x256.Idx) 0).isLt
  have hi1 : ((i : S512x256.Idx) 1).val < 256 := ((i : S512x256.Idx) 1).isLt
  have cover : ∀ c : Fin 3, offs c ≤ ((i : S512x256.Idx) 0).val % 128 → ((i : S512x256.Idx) 0).val % 128 < offs c + rows c → g i = outAt m ρ d i := fun c h1 h2 => by
    refine key ⟨((i : S512x256.Idx) 0).val / 128, by omega⟩ c
      (ix2 (⟨((i : S512x256.Idx) 0).val % 128 - offs c, by omega⟩ : Fin (rows c)) (⟨((i : S512x256.Idx) 1).val, hi1⟩ : Fin 256)) i ?_
    funext a
    apply Fin.ext
    rcases a with ⟨_ | _ | a, ha⟩
    · refine Eq.trans ?_ (row_orect _ c _).symm
      show ((i : S512x256.Idx) 0).val = 128 * (((i : S512x256.Idx) 0).val / 128) + offs c + (((i : S512x256.Idx) 0).val % 128 - offs c)
      omega
    · exact (col_orect ⟨((i : S512x256.Idx) 0).val / 128, by omega⟩ c (ix2 (⟨((i : S512x256.Idx) 0).val % 128 - offs c, by omega⟩ : Fin (rows c)) (⟨((i : S512x256.Idx) 1).val, hi1⟩ : Fin 256))).symm
    · exact absurd ha (by show ¬ a + 1 + 1 < 2; omega)
  by_cases h1 : ((i : S512x256.Idx) 0).val % 128 < 48
  · exact cover 0 (Nat.zero_le _) h1
  by_cases h2 : ((i : S512x256.Idx) 0).val % 128 < 88
  · exact cover 1 (Nat.le_of_not_lt h1) h2
  · exact cover 2 (Nat.le_of_not_lt h2) (Nat.mod_lt _ (by decide))

end Cert.KernelIdeal.Ring

end
-- ==== Proof.KernelIdeal.Whole.lean ====
/-
  The whole body on one device: the exchanges grouped by layer and round, the scratch buffers cut into the exchanges'
  places and put together again, the barrier's handshake, and the body from its start to its end.
-/
module

public import proofs.«01_k».proof.Proof.KernelIdeal.Body
public import Idealize.ShloMosaic.Lib.Ring

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cix → ℕ) (d : Dev nD)

/-! ## The exchanges, layer by layer and round by round -/

theorem grp_all (Φ : Ex → sProp 𝕄) :
    bigSep Finset.univ Φ = iprop((grp Φ 0 0 ∗ grp Φ 0 1 ∗ grp Φ 0 2) ∗ (grp Φ 1 0 ∗ grp Φ 1 1 ∗ grp Φ 1 2) ∗ (grp Φ 2 0 ∗ grp Φ 2 1 ∗ grp Φ 2 2)) := by
  have h : bigSep Finset.univ Φ = bigSep Finset.univ fun l : Fin 3 => bigSep Finset.univ fun r : Fin 3 => grp Φ l r := by
    rw [bigSep_univ_prod]
    refine bigSep_congr fun l _ => ?_
    rw [bigSep_univ_prod]
    refine bigSep_congr fun r _ => ?_
    rw [bigSep_univ_prod]; rfl
  rw [h, bigSep_three, bigSep_three, bigSep_three, bigSep_three]

/-! ## A scratch buffer and its nine places -/

section Places

variable (c : Fin 3) (M : Memref sig .tc .vmem (SB c) .f32)

abbrev place (p : Fin 3 × Fin 3) : Finset M.view.ty.shape.Idx := (piece p.1 p.2 c M).view.set

theorem place_eq (p : Fin 3 × Fin 3) : place c M p = (lrect p.1 p.2 c).set.map M.view.emb := by
  unfold place; rw [set_piece]; exact View.set_slice M.view _

theorem mem_lrect (l r : Fin 3) (i : (SB c).Idx) : i ∈ (lrect l r c).set ↔ (i 0).val = l.val ∧ (i 1).val = r.val := by
  rw [Rect.mem_set_unit]
  constructor
  · intro h
    have h0 := h 0; have h1 := h 1
    exact ⟨by have a : l.val ≤ (i 0).val := h0.1; have b : (i 0).val < l.val + 1 := h0.2; omega,
      by have a : r.val ≤ (i 1).val := h1.1; have b : (i 1).val < r.val + 1 := h1.2; omega⟩
  · rintro ⟨h0, h1⟩ a
    rcases a with ⟨_ | _ | _ | _ | a, ha⟩
    · exact ⟨(show l.val ≤ (i 0).val by omega), (show (i 0).val < l.val + 1 by omega)⟩
    · exact ⟨(show r.val ≤ (i 1).val by omega), (show (i 1).val < r.val + 1 by omega)⟩
    · exact ⟨Nat.zero_le _, by show (i 2).val < 0 + rows c; have := (i 2).isLt; rw [Nat.zero_add]; exact this⟩
    · exact ⟨Nat.zero_le _, by show (i 3).val < 0 + 256; have := (i 3).isLt; rw [Nat.zero_add]; exact this⟩
    · exact absurd ha (by show ¬ a + 1 + 1 + 1 + 1 < 4; omega)

theorem place_disjoint (p p' : Fin 3 × Fin 3) (h : p ≠ p') : Disjoint (place c M p) (place c M p') := by
  rw [place_eq, place_eq, Finset.disjoint_map]
  refine Finset.disjoint_left.mpr fun i hi hi' => h ?_
  rw [mem_lrect] at hi hi'
  exact Prod.ext (Fin.ext (hi.1.symm.trans hi'.1)) (Fin.ext (hi.2.symm.trans hi'.2))

theorem place_cover : Finset.univ.biUnion (place c M) = M.view.set := by
  ext j
  simp only [Finset.mem_biUnion, Finset.mem_univ, true_and]
  constructor
  · rintro ⟨p, hp⟩
    rw [place_eq] at hp
    obtain ⟨i, -, rfl⟩ := Finset.mem_map.mp hp
    exact Finset.mem_map_of_mem _ (Finset.mem_univ i)
  · intro hj
    obtain ⟨i, -, rfl⟩ := Finset.mem_map.mp hj
    refine ⟨(⟨(i 0).val, (i 0).isLt⟩, ⟨(i 1).val, (i 1).isLt⟩), ?_⟩
    rw [place_eq]
    exact Finset.mem_map_of_mem _ ((mem_lrect c _ _ i).mpr ⟨rfl, rfl⟩)

/-- A buffer at some contents. -/
def bufHeld : sProp 𝕄 := iprop(∃ f : Buf (Elt F) (M.view.loc (d : Thread nD τ)), M.view.loc (d : Thread nD τ) ↦[M.view.set]{fullShare} f)
def placeHeld (p : Fin 3 × Fin 3) : sProp 𝕄 :=
  iprop(∃ f : Buf (Elt F) (M.view.loc (d : Thread nD τ)), M.view.loc (d : Thread nD τ) ↦[place c M p]{fullShare} f)

theorem buf_cut : (bufHeld d c M : sProp 𝕄) ⊢ bigSep Finset.univ (placeHeld d c M) := by
  have hf : ∀ (p : Fin 3 × Fin 3) (f : Buf (Elt F) (M.view.loc (d : Thread nD τ))),
      (M.view.loc (d : Thread nD τ) ↦[place c M p]{fullShare} f) ⊢ (placeHeld d c M p : sProp 𝕄) := fun p f => by
    unfold placeHeld; iintro H; iexists f; iexact H
  have key : ∀ f : Buf (Elt F) (M.view.loc (d : Thread nD τ)),
      (M.view.loc (d : Thread nD τ) ↦[M.view.set]{fullShare} f) ⊢ (bigSep Finset.univ (placeHeld d c M) : sProp 𝕄) := fun f => by
    rw [Idealize.ShloMosaic.Ring.pointsTo_sub_blocks (place c M) (place_disjoint c M) M.view.set (place_cover c M) f]
    exact bigSep_mono fun p _ => hf p f
  unfold bufHeld
  iintro ⟨%f, H⟩
  iapply (key f); iexact H
theorem buf_join : (bigSep Finset.univ (placeHeld d c M) : sProp 𝕄) ⊢ bufHeld d c M := by
  rw [bigSep_univ_at _ ((0, 0) : Fin 3 × Fin 3)]
  have h : ∀ f : Buf (Elt F) (M.view.loc (d : Thread nD τ)),
      iprop((M.view.loc (d : Thread nD τ) ↦[place c M (0, 0)]{fullShare} f) ∗ bigSep (Finset.univ.erase (0, 0)) (placeHeld d c M)) ⊢ (bufHeld d c M : sProp 𝕄) := fun f => by
    have hj : (bigSep Finset.univ (placeHeld d c M) : sProp 𝕄) ⊢ bufHeld d c M :=
      Idealize.ShloMosaic.Ring.pointsTo_sub_blocks_join_exists (ℓ := M.view.loc (d : Thread nD τ)) (Val := Elt F) (B := Fin 3 × Fin 3)
        (place c M) (place_disjoint c M) M.view.set (place_cover c M) (q := fullShare) f
    have hf : (M.view.loc (d : Thread nD τ) ↦[place c M (0, 0)]{fullShare} f) ⊢ (placeHeld d c M (0, 0) : sProp 𝕄) := by
      unfold placeHeld; iintro H; iexists f; iexact H
    rw [bigSep_univ_at _ ((0, 0) : Fin 3 × Fin 3)] at hj
    iintro ⟨H, Hr⟩
    iapply hj
    isplitl [H]; · iapply hf; iexact H
    iexact Hr
  have h0 : (placeHeld d c M (0, 0) : sProp 𝕄)
      ⊢ iprop(∃ f : Buf (Elt F) (M.view.loc (d : Thread nD τ)), M.view.loc (d : Thread nD τ) ↦[place c M (0, 0)]{fullShare} f) := .rfl
  iintro ⟨H, Hr⟩
  ihave H := h0 $$ H
  icases H with ⟨%f, H⟩
  iapply (h f)
  isplitl [H] <;> iassumption

end Places

/-- All scratch buffers, whole, are all places; -/
def scratch (d : Dev nD) : sProp 𝕄 :=
  iprop((bigSep Finset.univ fun s : Fin 4 => bigSep Finset.univ fun c : Fin 3 => bufHeld d c (sM s c))
    ∗ bigSep Finset.univ fun s : Fin 4 => bigSep Finset.univ fun c : Fin 3 => bufHeld d c (rM s c))
def places (d : Dev nD) : sProp 𝕄 := iprop(bigSep Finset.univ (sHeld d) ∗ bigSep Finset.univ (rHeld d))

theorem ex_swap (Φ : Ex → sProp 𝕄) :
    bigSep Finset.univ Φ
      = bigSep Finset.univ fun s : Fin 4 => bigSep Finset.univ fun c : Fin 3 => bigSep Finset.univ fun p : Fin 3 × Fin 3 => Φ (p.1, p.2, s, c) := by
  rw [bigSep_univ_equiv (⟨fun q => (q.2.2.1, q.2.2.2, q.1, q.2.1), fun e => (e.2.2.1, e.2.2.2, e.1, e.2.1), fun _ => rfl, fun _ => rfl⟩ :
      (Fin 4 × Fin 3 × Fin 3 × Fin 3) ≃ Ex), bigSep_univ_prod]
  refine bigSep_congr fun s _ => ?_
  rw [bigSep_univ_prod]; rfl

theorem scratch_cut : (scratch d : sProp 𝕄) ⊢ places d := by
  have h : ∀ M : (s : Fin 4) → (c : Fin 3) → Memref sig .tc .vmem (SB c) .f32,
      (bigSep Finset.univ fun s : Fin 4 => bigSep Finset.univ fun c : Fin 3 => bufHeld d c (M s c) : sProp 𝕄)
        ⊢ bigSep Finset.univ fun s : Fin 4 => bigSep Finset.univ fun c : Fin 3 => bigSep Finset.univ (placeHeld d c (M s c)) :=
    fun M => bigSep_mono fun s _ => bigSep_mono fun c _ => buf_cut d c (M s c)
  unfold scratch places
  rw [ex_swap (sHeld d), ex_swap (rHeld d)]
  iintro ⟨HS, HR⟩
  isplitl [HS]
  · iapply (h sM); iexact HS
  · iapply (h rM); iexact HR
theorem scratch_join : (places d : sProp 𝕄) ⊢ scratch d := by
  have h : ∀ M : (s : Fin 4) → (c : Fin 3) → Memref sig .tc .vmem (SB c) .f32,
      (bigSep Finset.univ fun s : Fin 4 => bigSep Finset.univ fun c : Fin 3 => bigSep Finset.univ (placeHeld d c (M s c)) : sProp 𝕄)
        ⊢ bigSep Finset.univ fun s : Fin 4 => bigSep Finset.univ fun c : Fin 3 => bufHeld d c (M s c) :=
    fun M => bigSep_mono fun s _ => bigSep_mono fun c _ => buf_join d c (M s c)
  unfold scratch places
  rw [ex_swap (sHeld d), ex_swap (rHeld d)]
  iintro ⟨HS, HR⟩
  isplitl [HS]
  · iapply (h sM); iexact HS
  · iapply (h rM); iexact HR

/-! ## The handshake -/

/-- The tokens of the three signals the device pays. -/
def barToks (d : Dev nD) : sProp 𝕄 :=
  iprop(dutyTok ER (barCell (peer 0 d)) 0 0 ∗ dutyTok ER (barCell (peer 1 d)) 0 1 ∗ dutyTok ER (barCell (peer 2 d)) 0 2)

theorem hand_pay (k : Fin 3) :
    (bigSep (Finset.univ.filter fun e : Ex => turnE e = k) (rHeld d) : sProp 𝕄) ⊢ (Rd m ρ).payload ((peer k d : Thread nD τ), SemLoc.reg barS) 0 k := by
  have h : (bigSep (Finset.univ.filter fun e : Ex => turnE e = k) (rHeld d) : sProp 𝕄) = (Rd m ρ).payload (barCell (peer k d)) 0 k := by
    rw [Rd_payload]; unfold pay barPay; rw [peer_peer]
  exact Entails.of_eq h

/-- One signal: the landing places of peer `k`'s exchanges are handed to it. -/
theorem wp_hand (k : Fin 3) {α : Type} {Q : α → sProp 𝕄} {kt : PUnit → Prog (Eff F) α} (O O' : CellTallies nD τ sig Unit) (hO : O' = O + barTal d k) (W : Waits sig Unit) :
    iprop(ctx m ρ K ∗ owes (d : Thread nD τ) O' W ∗ dutyTok ER (barCell (peer k d)) 0 k ∗ bigSep (Finset.univ.filter fun e : Ex => turnE e = k) (rHeld d))
      ⊢ iprop((owes (d : Thread nD τ) O W -∗ wp frame (wpE (defs₀ (F := F)) 𝒱₀ (d : Thread nD τ) none) Set.univ (kt ⟨⟩) Q)
          -∗ wp frame (wpE (defs₀ (F := F)) 𝒱₀ (d : Thread nD τ) none) Set.univ (.op (.semSignal (peer k d : Thread nD τ) barS (1#32).toInt) kt) Q) := by
  iintro ⟨#Hc, HO, Ht, Hp⟩ Hk
  iapply (Rounds.wp_signal 𝒱₀ ER (Rd m ρ) (d : Thread nD τ) none (dst := (peer k d : Thread nD τ)) (sem := barS) (r := 0) (κ := K (peer k d, none))
      (d := k) (by show k ∈ (Rd m ρ).duties (barCell (peer k d)) 0; rw [Rd_duties]; exact Finset.mem_univ _)
      ((Rd_amount m ρ (peer k d) none k).trans (by decide)) () O hO) $$ [HO Ht Hp]
  · isplitr; · iapply (ctx_inv m ρ K (peer k d) none); iexact Hc
    isplitl [HO]; · iexact HO
    isplitl [Ht]; · iexact Ht
    isplitl [Hp]
    · iapply (hand_pay m ρ d k); iexact Hp
    · iapply (ctx_reached m ρ K (peer k d) none); iexact Hc
  iexact Hk

theorem rest_bar :
    (bigSep ((Rd m ρ).duties ((d : Thread nD τ), SemLoc.reg barS) 0 \ ∅) fun k => (Rd m ρ).payload ((d : Thread nD τ), SemLoc.reg barS) 0 k)
      ⊢ bigSep Finset.univ fun e : Ex => (rHeld (mate e d) e : sProp 𝕄) := Entails.of_eq (Rd_rest_bar m ρ d)

theorem handshake_spec :
    Tr m ρ K d iprop((∃ W : Waits sig Unit, owes (d : Thread nD τ) (O₀ d) W) ∗ (atPos ER (barCell d) 0 ∅ 0 ∗ cred (tallyAt (barCell d) () 3)) ∗ barToks d ∗ bigSep Finset.univ (rHeld d))
      (handshake d) ⟨⟩ iprop(st d 0 ∗ semVal (barCell d) 0 ∗ bigSep Finset.univ fun e : Ex => rHeld (mate e d) e) := fun Kt => by
  have hsplit : (bigSep Finset.univ (rHeld d) : sProp 𝕄) = iprop(bigSep (Finset.univ.filter fun e : Ex => turnE e = 0) (rHeld d)
      ∗ bigSep (Finset.univ.filter fun e : Ex => turnE e = 1) (rHeld d) ∗ bigSep (Finset.univ.filter fun e : Ex => turnE e = 2) (rHeld d)) := by
    rw [bigSep_fiberwise Finset.univ turnE,
      show Finset.univ.image turnE = Finset.univ from by
        ext k; simp only [Finset.mem_image, Finset.mem_univ, true_and, iff_true]
        exact ⟨(0, 0, 0, k), rfl⟩, bigSep_three]
  rw [hsplit]
  unfold handshake barToks
  simp only [semSignalWord, semWaitWord, Prog.lift, Prog.bind_op, Prog.bind_ret]
  iintro ⟨#Hc, ⟨⟨%W, HO⟩, ⟨Hat, Hcr⟩, ⟨H0, H1, H2⟩, P0, P1, P2⟩, Hk⟩
  iapply (wp_hand m ρ K d 0 (tal d 0 + barTal d 2 + barTal d 1) (O₀ d) rfl W) $$ [HO H0 P0]
  · isplitr; · iexact Hc
    isplitl [HO]; · iexact HO
    isplitl [H0] <;> iassumption
  iintro HO
  iapply (wp_hand m ρ K d 1 (tal d 0 + barTal d 2) _ rfl W) $$ [HO H1 P1]
  · isplitr; · iexact Hc
    isplitl [HO]; · iexact HO
    isplitl [H1] <;> iassumption
  iintro HO
  iapply (wp_hand m ρ K d 2 (tal d 0) _ rfl W) $$ [HO H2 P2]
  · isplitr; · iexact Hc
    isplitl [HO]; · iexact HO
    isplitl [H2] <;> iassumption
  iintro HO
  iapply (Rounds.wp_wait_rest_token 𝒱₀ ER (Rd m ρ) (d : Thread nD τ) none (κ := K (d, none))
      (wpE_semWait_eq 𝒱₀ (d : Thread nD τ) none Set.univ) (Set.mem_univ _) () (O := tal d 0) (W := W) (R := 0) (m := 0) (T := ∅)
      (by show _ = (Rd m ρ).expect (barCell d) 0; rw [Rd_expect_bar]; decide)) $$ [Hcr HO Hat]
  · isplitr; · iapply (ctx_inv m ρ K d none); iexact Hc
    isplitl [Hcr]; · iexact Hcr
    isplitl [HO]; · iexact HO
    isplitr; · iapply (mayWait_bar d); iapply (ctx_lev m ρ K); iexact Hc
    iexact Hat
  iintro ⟨HO, Hat, -, Hp⟩
  ihave Hp := (rest_bar m ρ d) $$ Hp
  imod (Rounds.cell_close ER (Rd m ρ) (Set.mem_univ (K (d, none))) (fun h => h) (R := 0 + 1) (Rd_later m ρ (barCell d))) $$ [Hat] with Hz
  · isplitr; · iapply (ctx_inv m ρ K d none); iexact Hc
    iexact Hat
  rw [wp_ret]; imodintro
  iapply Hk
  isplitl [HO]; · unfold st; iexists _; iexact HO
  isplitl [Hz]; · iexact Hz
  iexact Hp

/-! ## The body -/

/-- An exchange's two duties and its waits; -/
def due (d : Dev nD) (e : Ex) : sProp 𝕄 := iprop(dutyTok ER (sCell d e) 0 0 ∗ dutyTok ER (rCell (mate e d) e) 0 0 ∗ waiting d e)
/-- what a device has of the exchanges at the start, and at the end. -/
def start (d : Dev nD) : sProp 𝕄 :=
  iprop((atPos ER (barCell d) 0 ∅ 0 ∗ cred (tallyAt (barCell d) () 3)) ∗ barToks d ∗ bigSep Finset.univ (due d))
def zeros (d : Dev nD) : sProp 𝕄 :=
  iprop(semVal (barCell d) 0 ∗ bigSep Finset.univ fun e : Ex => iprop(semVal (sCell d e) 0 ∗ semVal (rCell d e) 0))
/-- All that is staged. -/
def staged (d : Dev nD) : sProp 𝕄 := iprop(xHeld m ρ d ∗ wHeld m ρ d 0 ∗ wHeld m ρ d 1 ∗ wHeld m ρ d 2)

theorem ready_all :
    (iprop(bigSep Finset.univ (due d) ∗ bigSep Finset.univ (sHeld d) ∗ bigSep Finset.univ fun e : Ex => rHeld (mate e d) e) : sProp 𝕄)
      ⊢ bigSep Finset.univ (ready d) := by
  rw [← bigSep_sep', ← bigSep_sep']
  have h : ∀ e : Ex, (iprop(due d e ∗ sHeld d e ∗ rHeld (mate e d) e) : sProp 𝕄) ⊢ ready d e := fun e => ?_
  · exact bigSep_mono fun e _ => h e
  unfold due ready
  iintro ⟨⟨H1, H2, H3⟩, H4, H5⟩
  isplitl [H1]; · iexact H1
  isplitl [H2]; · iexact H2
  isplitl [H4]; · iexact H4
  isplitl [H5] <;> iassumption
theorem over_all :
    (bigSep Finset.univ (over d) : sProp 𝕄) ⊢ iprop(places d ∗ bigSep Finset.univ fun e : Ex => iprop(semVal (sCell d e) 0 ∗ semVal (rCell d e) 0)) := by
  unfold places
  rw [← bigSep_sep', ← bigSep_sep']
  have h : ∀ e : Ex, (over d e : sProp 𝕄) ⊢ iprop((sHeld d e ∗ rHeld d e) ∗ semVal (sCell d e) 0 ∗ semVal (rCell d e) 0) := fun e => ?_
  · exact bigSep_mono fun e _ => h e
  unfold over
  iintro ⟨H1, H2, H3⟩
  isplitl [H1 H2]; · isplitl [H1] <;> iassumption
  iexact H3

theorem body_spec :
    Tr m ρ K d iprop((∃ W : Waits sig Unit, owes (d : Thread nD τ) (O₀ d) W) ∗ start d ∗ scratch d ∗ staged m ρ d ∗ outHeld m ρ d 0)
      body ⟨⟩ iprop(st d 108 ∗ zeros d ∗ scratch d ∗ staged m ρ d ∗ outHeld m ρ d 12) := by
  unfold body
  have hid : Tr m ρ K d iprop((∃ W : Waits sig Unit, owes (d : Thread nD τ) (O₀ d) W) ∗ start d ∗ scratch d ∗ staged m ρ d ∗ outHeld m ρ d 0)
      (Prog.lift .deviceId) d iprop((∃ W : Waits sig Unit, owes (d : Thread nD τ) (O₀ d) W) ∗ start d ∗ scratch d ∗ staged m ρ d ∗ outHeld m ρ d 0) := fun Kt => by
    simp only [Prog.lift]
    iintro ⟨-, HP, Hk⟩
    rw [wp_deviceId, wp_ret]; imodintro
    iapply Hk; iexact HP
  refine Tr.bind hid ?_
  refine Tr.bind (Tr.conseq ?_ (Tr.frame iprop(bigSep Finset.univ (due d) ∗ bigSep Finset.univ (sHeld d) ∗ staged m ρ d ∗ outHeld m ρ d 0) (handshake_spec m ρ K d)) .rfl) ?_
  · unfold start
    iintro ⟨HO, ⟨Hb, Ht, Hd⟩, Hs, Hst, Ho⟩
    ihave Hs := (scratch_cut d) $$ Hs
    unfold places
    icases Hs with ⟨HS, HR⟩
    isplitl [HO Hb Ht HR]
    · isplitl [HO]; · iexact HO
      isplitl [Hb]; · iexact Hb
      isplitl [Ht] <;> iassumption
    isplitl [Hd]; · iexact Hd
    isplitl [HS]; · iexact HS
    isplitl [Hst] <;> iassumption
  -- the frame: what the rounds do not touch
  refine Tr.conseq (P := iprop((st d 0 ∗ staged m ρ d ∗ bigSep Finset.univ (ready d)) ∗ semVal (barCell d) 0 ∗ outHeld m ρ d 0)) ?_ ?_ .rfl
  · iintro ⟨⟨HO, Hz, HR⟩, Hd, HS, Hst, Ho⟩
    isplitr [Hz Ho]
    · isplitl [HO]; · iexact HO
      isplitl [Hst]; · iexact Hst
      iapply (ready_all d)
      isplitl [Hd]; · iexact Hd
      isplitl [HS] <;> iassumption
    · isplitl [Hz] <;> iassumption
  rw [grp_all (ready d)]
  refine Tr.bind (Tr.conseq ?_ (Tr.frame iprop((wHeld m ρ d 1 ∗ wHeld m ρ d 2) ∗ (semVal (barCell d) 0 ∗ outHeld m ρ d 0)
      ∗ (grp (ready d) 0 1 ∗ grp (ready d) 0 2) ∗ (grp (ready d) 1 0 ∗ grp (ready d) 1 1 ∗ grp (ready d) 1 2) ∗ grp (ready d) 2 0 ∗ grp (ready d) 2 1 ∗ grp (ready d) 2 2)
      (first_spec m ρ K d)) .rfl) ?_
  · unfold staged
    iintro ⟨⟨HO, ⟨Hx, H0, H1, H2⟩, ⟨G00, G0⟩, G1, G2⟩, Hz⟩
    isplitl [HO Hx H0 G00]
    · isplitr [G00]
      · isplitl [HO]; · iexact HO
        isplitl [Hx] <;> iassumption
      · iexact G00
    isplitl [H1 H2]; · isplitl [H1] <;> iassumption
    isplitl [Hz]; · iexact Hz
    isplitl [G0]; · iexact G0
    isplitl [G1] <;> iassumption
  refine Tr.bind (Tr.conseq ?_ (Tr.frame iprop(staged m ρ d ∗ (semVal (barCell d) 0 ∗ outHeld m ρ d 0)
      ∗ grp (ready d) 0 2 ∗ (grp (ready d) 1 0 ∗ grp (ready d) 1 1 ∗ grp (ready d) 1 2) ∗ grp (ready d) 2 0 ∗ grp (ready d) 2 1 ∗ grp (ready d) 2 2)
      (round_spec m ρ K d 0 0 1 rfl)) .rfl) ?_
  · unfold staged
    iintro ⟨⟨⟨HO, Hx, H0⟩, G00⟩, ⟨H1, H2⟩, Hz, ⟨G01, G02⟩, G1, G2⟩
    isplitl [HO G00 G01]
    · isplitl [HO]; · iexact HO
      isplitl [G00] <;> iassumption
    isplitl [Hx H0 H1 H2]
    · isplitl [Hx]; · iexact Hx
      isplitl [H0]; · iexact H0
      isplitl [H1] <;> iassumption
    isplitl [Hz]; · iexact Hz
    isplitl [G02]; · iexact G02
    isplitl [G1] <;> iassumption
  refine Tr.bind (Tr.conseq ?_ (Tr.frame iprop(staged m ρ d ∗ (semVal (barCell d) 0 ∗ outHeld m ρ d 0)
      ∗ grp (over d) 0 0 ∗ (grp (ready d) 1 0 ∗ grp (ready d) 1 1 ∗ grp (ready d) 1 2) ∗ grp (ready d) 2 0 ∗ grp (ready d) 2 1 ∗ grp (ready d) 2 2)
      (round_spec m ρ K d 0 1 2 rfl)) .rfl) ?_
  · iintro ⟨⟨HO, V00, G01⟩, Hst, Hz, G02, G1, G2⟩
    isplitl [HO G01 G02]
    · isplitl [HO]; · iexact HO
      isplitl [G01] <;> iassumption
    isplitl [Hst]; · iexact Hst
    isplitl [Hz]; · iexact Hz
    isplitl [V00]; · iexact V00
    isplitl [G1] <;> iassumption
  refine Tr.bind (Tr.conseq ?_ (Tr.frame iprop((xHeld m ρ d ∗ wHeld m ρ d 0 ∗ wHeld m ρ d 2) ∗ (semVal (barCell d) 0 ∗ outHeld m ρ d 0)
      ∗ (grp (over d) 0 0 ∗ grp (over d) 0 1) ∗ (grp (ready d) 1 1 ∗ grp (ready d) 1 2) ∗ grp (ready d) 2 0 ∗ grp (ready d) 2 1 ∗ grp (ready d) 2 2)
      (next_spec m ρ K d 0 1 rfl)) .rfl) ?_
  · unfold staged
    iintro ⟨⟨HO, V01, G02⟩, ⟨Hx, H0, H1, H2⟩, Hz, V00, ⟨G10, G1⟩, G2⟩
    isplitl [HO H1 G02 G10]
    · isplitl [HO H1]; · isplitl [HO] <;> iassumption
      isplitl [G02] <;> iassumption
    isplitl [Hx H0 H2]
    · isplitl [Hx]; · iexact Hx
      isplitl [H0] <;> iassumption
    isplitl [Hz]; · iexact Hz
    isplitl [V00 V01]; · isplitl [V00] <;> iassumption
    isplitl [G1] <;> iassumption
  refine Tr.bind (Tr.conseq ?_ (Tr.frame iprop(staged m ρ d ∗ (semVal (barCell d) 0 ∗ outHeld m ρ d 0)
      ∗ (grp (over d) 0 0 ∗ grp (over d) 0 1 ∗ grp (over d) 0 2) ∗ grp (ready d) 1 2 ∗ grp (ready d) 2 0 ∗ grp (ready d) 2 1 ∗ grp (ready d) 2 2)
      (round_spec m ρ K d 1 0 1 rfl)) .rfl) ?_
  · unfold staged
    iintro ⟨⟨⟨HO, H1⟩, V02, G10⟩, ⟨Hx, H0, H2⟩, Hz, ⟨V00, V01⟩, ⟨G11, G12⟩, G2⟩
    isplitl [HO G10 G11]
    · isplitl [HO]; · iexact HO
      isplitl [G10] <;> iassumption
    isplitl [Hx H0 H1 H2]
    · isplitl [Hx]; · iexact Hx
      isplitl [H0]; · iexact H0
      isplitl [H1] <;> iassumption
    isplitl [Hz]; · iexact Hz
    isplitl [V00 V01 V02]
    · isplitl [V00]; · iexact V00
      isplitl [V01] <;> iassumption
    isplitl [G12] <;> iassumption
  refine Tr.bind (Tr.conseq ?_ (Tr.frame iprop(staged m ρ d ∗ (semVal (barCell d) 0 ∗ outHeld m ρ d 0)
      ∗ (grp (over d) 0 0 ∗ grp (over d) 0 1 ∗ grp (over d) 0 2) ∗ grp (over d) 1 0 ∗ grp (ready d) 2 0 ∗ grp (ready d) 2 1 ∗ grp (ready d) 2 2)
      (round_spec m ρ K d 1 1 2 rfl)) .rfl) ?_
  · iintro ⟨⟨HO, V10, G11⟩, Hst, Hz, V0, G12, G2⟩
    isplitl [HO G11 G12]
    · isplitl [HO]; · iexact HO
      isplitl [G11] <;> iassumption
    isplitl [Hst]; · iexact Hst
    isplitl [Hz]; · iexact Hz
    isplitl [V0]; · iexact V0
    isplitl [V10] <;> iassumption
  refine Tr.bind (Tr.conseq ?_ (Tr.frame iprop((xHeld m ρ d ∗ wHeld m ρ d 0 ∗ wHeld m ρ d 1) ∗ (semVal (barCell d) 0 ∗ outHeld m ρ d 0)
      ∗ (grp (over d) 0 0 ∗ grp (over d) 0 1 ∗ grp (over d) 0 2) ∗ (grp (over d) 1 0 ∗ grp (over d) 1 1) ∗ grp (ready d) 2 1 ∗ grp (ready d) 2 2)
      (next_spec m ρ K d 1 2 rfl)) .rfl) ?_
  · unfold staged
    iintro ⟨⟨HO, V11, G12⟩, ⟨Hx, H0, H1, H2⟩, Hz, V0, V10, G20, G2⟩
    isplitl [HO H2 G12 G20]
    · isplitl [HO H2]; · isplitl [HO] <;> iassumption
      isplitl [G12] <;> iassumption
    isplitl [Hx H0 H1]
    · isplitl [Hx]; · iexact Hx
      isplitl [H0] <;> iassumption
    isplitl [Hz]; · iexact Hz
    isplitl [V0]; · iexact V0
    isplitl [V10 V11]; · isplitl [V10] <;> iassumption
    iexact G2
  refine Tr.bind (Tr.conseq ?_ (Tr.frame iprop(staged m ρ d ∗ (semVal (barCell d) 0 ∗ outHeld m ρ d 0)
      ∗ (grp (over d) 0 0 ∗ grp (over d) 0 1 ∗ grp (over d) 0 2) ∗ (grp (over d) 1 0 ∗ grp (over d) 1 1 ∗ grp (over d) 1 2) ∗ grp (ready d) 2 2)
      (round_spec m ρ K d 2 0 1 rfl)) .rfl) ?_
  · unfold staged
    iintro ⟨⟨⟨HO, H2⟩, V12, G20⟩, ⟨Hx, H0, H1⟩, Hz, V0, ⟨V10, V11⟩, G21, G22⟩
    isplitl [HO G20 G21]
    · isplitl [HO]; · iexact HO
      isplitl [G20] <;> iassumption
    isplitl [Hx H0 H1 H2]
    · isplitl [Hx]; · iexact Hx
      isplitl [H0]; · iexact H0
      isplitl [H1] <;> iassumption
    isplitl [Hz]; · iexact Hz
    isplitl [V0]; · iexact V0
    isplitl [V10 V11 V12]
    · isplitl [V10]; · iexact V10
      isplitl [V11] <;> iassumption
    iexact G22
  refine Tr.bind (Tr.conseq ?_ (Tr.frame iprop(staged m ρ d ∗ (semVal (barCell d) 0 ∗ outHeld m ρ d 0)
      ∗ (grp (over d) 0 0 ∗ grp (over d) 0 1 ∗ grp (over d) 0 2) ∗ (grp (over d) 1 0 ∗ grp (over d) 1 1 ∗ grp (over d) 1 2) ∗ grp (over d) 2 0)
      (round_spec m ρ K d 2 1 2 rfl)) .rfl) ?_
  · iintro ⟨⟨HO, V20, G21⟩, Hst, Hz, V0, V1, G22⟩
    isplitl [HO G21 G22]
    · isplitl [HO]; · iexact HO
      isplitl [G21] <;> iassumption
    isplitl [Hst]; · iexact Hst
    isplitl [Hz]; · iexact Hz
    isplitl [V0]; · iexact V0
    isplitl [V1] <;> iassumption
  refine Tr.bind (Tr.conseq ?_ (Tr.frame iprop(staged m ρ d ∗ (semVal (barCell d) 0 ∗ outHeld m ρ d 0)
      ∗ (grp (over d) 0 0 ∗ grp (over d) 0 1 ∗ grp (over d) 0 2) ∗ (grp (over d) 1 0 ∗ grp (over d) 1 1 ∗ grp (over d) 1 2) ∗ grp (over d) 2 0 ∗ grp (over d) 2 1)
      (last_spec m ρ K d)) .rfl) ?_
  · iintro ⟨⟨HO, V21, G22⟩, Hst, Hz, V0, V1, V20⟩
    isplitl [HO G22]; · isplitl [HO] <;> iassumption
    isplitl [Hst]; · iexact Hst
    isplitl [Hz]; · iexact Hz
    isplitl [V0]; · iexact V0
    isplitl [V1]; · iexact V1
    isplitl [V20] <;> iassumption
  refine Tr.bind (Tr.conseq ?_ (Tr.frame iprop(st d 108 ∗ staged m ρ d ∗ semVal (barCell d) 0 ∗ bigSep Finset.univ (over d)) (puts_spec m ρ K d)) .rfl) (Tr.pure _ ?_)
  · rw [grp_all (over d)]
    iintro ⟨⟨HO, V22⟩, Hst, ⟨Hz, Ho⟩, V0, V1, V20, V21⟩
    isplitl [Ho]; · iexact Ho
    isplitl [HO]; · iexact HO
    isplitl [Hst]; · iexact Hst
    isplitl [Hz]; · iexact Hz
    isplitl [V0]; · iexact V0
    isplitl [V1]; · iexact V1
    isplitl [V20]; · iexact V20
    isplitl [V21] <;> iassumption
  · unfold zeros
    iintro ⟨Ho, HO, Hst, Hz, HV⟩
    ihave HV := (over_all d) $$ HV
    icases HV with ⟨HP, Hv⟩
    isplitl [HO]; · iexact HO
    isplitl [Hz Hv]; · isplitl [Hz] <;> iassumption
    isplitl [HP]; · iapply (scratch_join d); iexact HP
    isplitl [Hst] <;> iassumption

end Cert.KernelIdeal.Ring

end
-- ==== Proof.KernelIdeal.Eq.lean ====
module

public import proofs.«01_k».proof.Proof.KernelIdeal.Prog

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-- The printed kernel, called as the pipeline calls it, is the program of loops. -/
theorem cc0_body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_stg6_0) (Memref.isWhole_whole _) (Memref.whole cc0_stg7_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) cc0_scratch24 cc0_scratch25
    = body := by
  chain_rfl

end Cert.KernelIdeal.Ring

end
-- ==== Proof.KernelIdeal.Launch.lean ====
/-
  The launch: the cells allocated, their tokens dealt to the devices that pay them, and the run of @main on the mesh.
-/
module

public import proofs.«01_k».proof.Proof.KernelIdeal.Whole
public import proofs.«01_k».proof.Proof.KernelIdeal.Eq
public import proofs.«01_k».proof.Proof.Gen.KernelIdeal.Points
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device's body starts from, its scratch aside. -/
def begin' (c : Dev nD) : sProp 𝕄 := iprop(∃ K, ctx m ρ K ∗ start c)
def Φ₀ (c : Dev nD) : sProp 𝕄 := iprop(begin' m ρ c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => wiv m ρ c 0
    | ⟨2, _⟩ => wov m ρ c 0
    | ⟨3, _⟩ => wiv m ρ c 1
    | ⟨4, _⟩ => wov m ρ c 1
    | ⟨5, _⟩ => wiv m ρ c 2
    | ⟨6, _⟩ => wov m ρ c 2
    | ⟨7, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

/-! ## The body's obligation -/

/-- What an input's staging buffer holds when the body runs is its block. -/
theorem before_in (c : Dev nD) (w : Fin cfg0.W) (t : Fin cfg0.N) (h : (cfg0.win w).fetch t = true) (d) :
    (dats m ρ 0 c).before w t d = (dats m ρ 0 c).fetched w t d := by
  unfold Dat.before; rw [if_pos h]

def bodyPre (c : Dev nD) : sProp 𝕄 :=
  iprop(Φ₀ m ρ c ∗ (dats m ρ 0 c).owesAt () t₀.castSucc
    ∗ (∃ d, holds xM c ((dats m ρ 0 c).before (0 : Fin 8) t₀ d))
    ∗ (∃ d, holds (winM 0) c ((dats m ρ 0 c).before (1 : Fin 8) t₀ d))
    ∗ (∃ d, holds (woutM 0) c ((dats m ρ 0 c).before (2 : Fin 8) t₀ d))
    ∗ (∃ d, holds (winM 1) c ((dats m ρ 0 c).before (3 : Fin 8) t₀ d))
    ∗ (∃ d, holds (woutM 1) c ((dats m ρ 0 c).before (4 : Fin 8) t₀ d))
    ∗ (∃ d, holds (winM 2) c ((dats m ρ 0 c).before (5 : Fin 8) t₀ d))
    ∗ (∃ d, holds (woutM 2) c ((dats m ρ 0 c).before (6 : Fin 8) t₀ d))
    ∗ (∃ d, holds oM c ((dats m ρ 0 c).before (7 : Fin 8) t₀ d)))
def bodyPost (c : Dev nD) : sProp 𝕄 :=
  iprop(Φ₁ c ∗ (dats m ρ 0 c).owesAt () t₀.succ ∗ holds xM c (xv m ρ c)
    ∗ holds (winM 0) c (wiv m ρ c 0) ∗ holds (woutM 0) c (wov m ρ c 0)
    ∗ holds (winM 1) c (wiv m ρ c 1) ∗ holds (woutM 1) c (wov m ρ c 1)
    ∗ holds (winM 2) c (wiv m ρ c 2) ∗ holds (woutM 2) c (wov m ρ c 2) ∗ holds oM c (outAt m ρ c))

theorem sound (c : Dev nD) : bodyPre m ρ c ⊢ wp frame (wpE (defs₀ (F := F)) 𝒱₀ (c : Thread nD τ) none) Set.univ body (fun _ => bodyPost m ρ c) := by
  have e0 : ∀ d, (dats m ρ 0 c).before (0 : Fin 8) t₀ d = xv m ρ c := fun d => (before_in m ρ c (0 : Fin 8) t₀ (fetch0_0 _) d).trans rfl
  have e1 : ∀ d, (dats m ρ 0 c).before (1 : Fin 8) t₀ d = wiv m ρ c 0 := fun d => (before_in m ρ c (1 : Fin 8) t₀ (fetch0_1 _) d).trans rfl
  have e2 : ∀ d, (dats m ρ 0 c).before (2 : Fin 8) t₀ d = wov m ρ c 0 := fun d => (before_in m ρ c (2 : Fin 8) t₀ (fetch0_2 _) d).trans rfl
  have e3 : ∀ d, (dats m ρ 0 c).before (3 : Fin 8) t₀ d = wiv m ρ c 1 := fun d => (before_in m ρ c (3 : Fin 8) t₀ (fetch0_3 _) d).trans rfl
  have e4 : ∀ d, (dats m ρ 0 c).before (4 : Fin 8) t₀ d = wov m ρ c 1 := fun d => (before_in m ρ c (4 : Fin 8) t₀ (fetch0_4 _) d).trans rfl
  have e5 : ∀ d, (dats m ρ 0 c).before (5 : Fin 8) t₀ d = wiv m ρ c 2 := fun d => (before_in m ρ c (5 : Fin 8) t₀ (fetch0_5 _) d).trans rfl
  have e6 : ∀ d, (dats m ρ 0 c).before (6 : Fin 8) t₀ d = wov m ρ c 2 := fun d => (before_in m ρ c (6 : Fin 8) t₀ (fetch0_6 _) d).trans rfl
  have hzero : ∀ d, (holds oM c ((dats m ρ 0 c).before (7 : Fin 8) t₀ d) : sProp 𝕄) ⊢ outHeld m ρ c 0 := fun d => by
    unfold outHeld
    iintro ⟨%f, -, H⟩
    iexists f; isplitr
    · ipureintro; exact fun s c h => absurd h (Nat.not_lt_zero _)
    · iexact H
  have hout : (outHeld m ρ c 12 : sProp 𝕄) ⊢ holds oM c (outAt m ρ c) := by
    unfold outHeld
    iintro ⟨%f, %hf, H⟩
    iexists f; isplitr
    · ipureintro; exact (View.read_whole (Val := Elt F) cc0_stg7_0 f).trans (out_eq m ρ c f hf)
    · iexact H
  have hst : (staged m ρ c : sProp 𝕄) = iprop(holds xM c (xv m ρ c) ∗ (holds (winM 0) c (wiv m ρ c 0) ∗ holds (woutM 0) c (wov m ρ c 0))
    ∗ (holds (winM 1) c (wiv m ρ c 1) ∗ holds (woutM 1) c (wov m ρ c 1)) ∗ (holds (winM 2) c (wiv m ρ c 2) ∗ holds (woutM 2) c (wov m ρ c 2))) := rfl
  unfold bodyPre bodyPost
  simp only [e0, e1, e2, e3, e4, e5, e6]
  unfold Φ₀ begin' Dat.owesAt Pipeline.owesWithin
  rw [show (dats m ρ 0 c).owed t₀.castSucc = O₀ c from rfl, show (dats m ρ 0 c).owed t₀.succ = 0 from rfl]
  iintro ⟨⟨⟨%K, #Hc, Hs⟩, Hscr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (body_spec m ρ K c _)
  isplitr; · iexact Hc
  rw [hst]
  isplitl
  · isplitl [HO]; · iexists W; iexact HO
    isplitl [Hs]; · iexact Hs
    isplitl [Hscr]; · iexact Hscr
    isplitl [H0 H1 H2 H3 H4 H5 H6]
    · isplitl [H0]; · iexact H0
      isplitl [H1 H2]; · isplitl [H1] <;> iassumption
      isplitl [H3 H4]; · isplitl [H3] <;> iassumption
      isplitl [H5] <;> iassumption
    · iapply (hzero d7); iexact H7
  unfold st Φ₁
  rw [tal_end]
  iintro ⟨⟨%W', HO⟩, Hz, Hscr, ⟨H0, ⟨H1, H2⟩, ⟨H3, H4⟩, H5, H6⟩, H7⟩
  isplitl [Hz Hscr]; · isplitl [Hscr] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iapply hout; iexact H7

set_option maxRecDepth 100000 in
theorem bodyAt_eq : bodyAt0 (F := F) t₀ = body := Eq.trans rfl cc0_body_eq

set_option maxRecDepth 100000 in
/-- The pipeline's body obligation on device `c`. -/
theorem body_obligation (c : Dev nD) : BodyObligation (dats (F := F) m ρ 0 c) (defs₀ (F := F)) 𝒱₀ () Set.univ := fun t => by
  rw [fin_N t]
  rw [bigSep_W, bigSep_W]
  show bodyPre m ρ c ⊢ wp frame (wpE (defs₀ (F := F)) 𝒱₀ (c : Thread nD τ) none) Set.univ (bodyAt0 t₀) (fun _ => bodyPost m ρ c)
  rw [bodyAt_eq]
  exact sound m ρ c

theorem share_eq (c : Dev nD) (w : Fin cfg0.W) : (dats m ρ 0 c).share w = fullShare := by unfold Dat.share; split <;> rfl

/-! ## The cells and their tokens -/

/-- The kernel's own semaphores. -/
abbrev osem : Bool × Ex → SemLoc sig := fun p => semOf (some p)

theorem osem_val (p : Bool × Ex) : ∃ q : DmaSem sig, osem p = .dma q ∧ 8 ≤ q.val := by
  obtain ⟨_ | _, e⟩ := p
  · exact ⟨sS e, rfl, by have := sS_val e; omega⟩
  · exact ⟨rS e, rfl, by have := rS_val e; omega⟩

theorem stage_val : ∀ (w : Fin 8) (s : Fin (spec0 w).nbuf), ((spec0 w).sem s).val < 8 := by decide

theorem ownSemFacts : Pipeline.OwnSemFacts cfg0.spec osem where
  isScoped p := by
    revert p; decide +kernel
  inj p p' h := Option.some.inj (semOf_inj h)
  disj p w s h := by
    obtain ⟨q, hq, h8⟩ := osem_val p
    rw [hq] at h
    have h2 := stage_val w s
    have h3 : q = (spec0 w).sem s := SemLoc.dma.inj h
    rw [← h3] at h2; omega

theorem kcell_injective : Function.Injective (fun p : Dev nD × Cix => kcell p.1 p.2) :=
  fun p p' h => Prod.ext (kcell_inj h).1 (kcell_inj h).2
def ringCells : Finset (GSem nD τ sig) := Finset.univ.map ⟨fun p : Dev nD × Cix => kcell p.1 p.2, kcell_injective⟩

/-- A device's own cells' tokens: its barrier's three, and one of each send and receive cell. -/
abbrev Tok := Fin 3 ⊕ (Bool × Ex)
def tokOf : Dev nD × Tok → GSem nD τ sig × ℕ × Fin 3
  | (c, .inl k) => (barCell c, 0, k)
  | (c, .inr p) => (kcell c (some p), 0, 0)
theorem tokOf_injective : Function.Injective tokOf := by
  rintro ⟨c, k | p⟩ ⟨c', k' | p'⟩ h
  · have h1 := kcell_inj (ix := none) (ix' := none) (congrArg Prod.fst h)
    have h2 : k = k' := congrArg (fun x : GSem nD τ sig × ℕ × Fin 3 => x.2.2) h
    rw [h1.1, h2]
  · have h1 := kcell_inj (ix := none) (ix' := some p') (congrArg Prod.fst h)
    cases h1.2
  · have h1 := kcell_inj (ix := some p) (ix' := none) (congrArg Prod.fst h)
    cases h1.2
  · have h1 := kcell_inj (ix := some p) (ix' := some p') (congrArg Prod.fst h)
    rw [h1.1, Option.some.inj h1.2]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun k : Fin 3 => dutyTok ER (barCell c) 0 k)
    ∗ (bigSep Finset.univ fun e : Ex => dutyTok ER (sCell c e) 0 0) ∗ bigSep Finset.univ fun e : Ex => dutyTok ER (rCell c e) 0 0)

theorem bigSep_pair (Φ : Bool × Ex → sProp 𝕄) :
    bigSep Finset.univ Φ = iprop((bigSep Finset.univ fun e => Φ (false, e)) ∗ bigSep Finset.univ fun e => Φ (true, e)) := by
  rw [bigSep_univ_prod]
  exact bigSep_univ_eq_bigSepL [false, true] (by decide) (by decide) _
theorem bigSep_cix (Φ : Cix → sProp 𝕄) :
    bigSep Finset.univ Φ = iprop(Φ none ∗ (bigSep Finset.univ fun e => Φ (some (false, e))) ∗ bigSep Finset.univ fun e => Φ (some (true, e))) := by
  rw [← bigSep_pair fun p => Φ (some p), bigSep_univ_at _ (none : Cix),
    show (Finset.univ.erase (none : Cix)) = Finset.univ.map Function.Embedding.some from by
      ext ix
      cases ix <;> simp, bigSep_map]
  rfl

/-- What the launch deals device `c`. -/
def G (c : Dev nD) : sProp 𝕄 :=
  iprop((bigSep Finset.univ fun ix : Cix => roundState ER (Rd m ρ) (kcell c ix) 0)
    ∗ (bigSep Finset.univ fun ix : Cix => iprop(atPos ER (kcell c ix) 0 ∅ 0 ∗ reached ER (kcell c ix) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun ix : Cix => Φ (kcell c ix) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_pair]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · iexact Hat'
    · iexact Hr'
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun e : Ex => semVal (sCell c e) 0) ∗ bigSep Finset.univ fun e : Ex => semVal (rCell c e) 0) := by
  unfold Pipeline.ownSems0; rw [bigSep_pair]
theorem unscopedSems0_eq (c : Dev nD) : (unscopedSems0 c : sProp 𝕄) = semVal (barCell c) 0 := by
  unfold unscopedSems0; rw [bigSep_eq_bigSepL_of_eq [SemLoc.reg barS] (by decide) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun ix : Cix => semVal (kcell c ix) 0 : sProp 𝕄) := by
  rw [ownSems0_eq, unscopedSems0_eq, bigSep_cix]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun ix : Cix => iprop(∃ κ : ℕ, cellInv ER (Rd m ρ) κ (kcell c ix)))
          ∗ (bigSep Finset.univ fun ix : Cix => iprop(atPos ER (kcell c ix) 0 ∅ 0 ∗ reached ER (kcell c ix) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun ix : Cix => semVal (kcell c ix) 0) ∗ bigSep Finset.univ fun ix : Cix => roundState ER (Rd m ρ) (kcell c ix) 0)
      ⊢ (|={Set.univ}=> bigSep Finset.univ fun ix : Cix => iprop(∃ κ : ℕ, cellInv ER (Rd m ρ) κ (kcell c ix)) : sProp 𝕄) from by
        rw [← bigSep_sep']
        exact (bigSep_mono fun ix _ => (Rounds.body_intro ER (Rd m ρ) (kcell c ix)).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of what it pays. -/
def payToks (c : Dev nD) : sProp 𝕄 :=
  iprop((bigSep Finset.univ fun k : Fin 3 => dutyTok ER (barCell (peer k c)) 0 k)
    ∗ (bigSep Finset.univ fun e : Ex => dutyTok ER (sCell c e) 0 0) ∗ bigSep Finset.univ fun e : Ex => dutyTok ER (rCell (mate e c) e) 0 0)
def linear (c : Dev nD) : sProp 𝕄 := iprop((bigSep Finset.univ fun ix : Cix => atPos ER (kcell c ix) 0 ∅ 0) ∗ payToks c)
def G' (c : Dev nD) : sProp 𝕄 := iprop(∃ K, records m ρ K ∗ linear c)

theorem ghost_intro (K : Dev nD × Cix → ℕ) (c : Dev nD) : iprop(records m ρ K ∗ linear c) ⊢ G' m ρ c := by
  unfold G'; iintro H; iexists K; iexact H

theorem swap {J : Type} [Fintype J] (Φ : Dev nD → J → sProp 𝕄) :
    (bigSep Finset.univ fun c => bigSep Finset.univ fun j => Φ c j) = bigSep Finset.univ fun j => bigSep Finset.univ fun c => Φ c j := by
  rw [← bigSep_univ_prod fun p : Dev nD × J => Φ p.1 p.2, ← bigSep_univ_prod fun p : J × Dev nD => Φ p.2 p.1]
  exact bigSep_univ_equiv (Equiv.prodComm J (Dev nD)) fun p : Dev nD × J => Φ p.1 p.2
/-- The tokens dealt: those of each cell to the peer that pays it. -/
theorem deal {J : Type} [Fintype J] (π : J → Dev nD → Dev nD) (hπ : ∀ j c, π j (π j c) = c) (Φ : Dev nD → J → sProp 𝕄) :
    (bigSep Finset.univ fun c => bigSep Finset.univ fun j => Φ c j) = bigSep Finset.univ fun c => bigSep Finset.univ fun j => Φ (π j c) j := by
  rw [swap, swap fun c j => Φ (π j c) j]
  refine bigSep_congr fun j _ => ?_
  exact bigSep_univ_equiv (⟨π j, π j, hπ j, hπ j⟩ : Dev nD ≃ Dev nD) fun c => Φ c j

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal (fun k => peer k) peer_peer (fun c (k : Fin 3) => (dutyTok ER (barCell c) 0 k : sProp 𝕄)),
    deal (fun e => mate e) mate_mate (fun c (e : Ex) => (dutyTok ER (rCell c e) 0 0 : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun ix : Cix => iprop(∃ κ : ℕ, cellInv ER (Rd m ρ) κ (kcell c ix)))
          ∗ (bigSep Finset.univ fun ix : Cix => iprop(atPos ER (kcell c ix) 0 ∅ 0 ∗ reached ER (kcell c ix) 0)) ∗ toks c) : sProp 𝕄)
      ⊢ bigSep Finset.univ (G' m ρ) := by
  rw [bigSep_sep', bigSep_sep', ← bigSep_univ_prod (fun p : Dev nD × Cix => iprop(∃ κ : ℕ, cellInv ER (Rd m ρ) κ (kcell p.1 p.2))),
    bigSep_congr (s := Finset.univ) (fun (c : Dev nD) _ => bigSep_sep' Finset.univ (fun ix : Cix => (atPos ER (kcell c ix) 0 ∅ 0 : sProp 𝕄)) (fun ix => reached ER (kcell c ix) 0)),
    bigSep_sep', ← bigSep_univ_prod (fun p : Dev nD × Cix => (reached ER (kcell p.1 p.2) 0 : sProp 𝕄))]
  iintro ⟨HI, ⟨Hat, #HR⟩, Htok⟩
  ihave HK := (BI.bigSep_exists_pi Finset.univ (fun (p : Dev nD × Cix) (κ : ℕ) => (cellInv ER (Rd m ρ) κ (kcell p.1 p.2) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun ix : Cix => (atPos ER (kcell c ix) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem peer_eq (k : Fin 3) (d c : Dev nD) : peer k d = c ↔ d = peer k c :=
  ⟨fun h => by rw [← h, peer_peer], fun h => by rw [h, peer_peer]⟩

theorem barTal_at (k : Fin 3) (d c : Dev nD) : barTal d k (barCell c) () = if d = peer k c then 1 else 0 := by
  unfold barTal; rw [tallyAt_apply]
  by_cases h : d = peer k c
  · rw [if_pos h, if_pos ⟨by rw [h, peer_peer], rfl⟩]
  · rw [if_neg h, if_neg fun h' => h ((peer_eq k d c).mp (kcell_inj h'.1).1.symm)]
theorem barTal_recv (k : Fin 3) (d c : Dev nD) (e : Ex) : barTal d k (rCell c e) () = 0 := by
  unfold barTal; rw [tallyAt_apply]; exact if_neg fun h' => by cases (kcell_inj h'.1).2
theorem tal_bar (d c : Dev nD) : tal d 0 (barCell c) () = 0 :=
  Nat.eq_zero_of_not_pos fun hp => by obtain ⟨e, -, he⟩ := tal_pos hp; cases (kcell_inj he).2
theorem tal_recv (d c : Dev nD) (e : Ex) : tal d 0 (rCell c e) () = if d = mate e c then credit e else 0 := by
  unfold tal
  rw [Finset.sum_apply, Finsupp.finset_sum_apply, Finset.sum_eq_single e]
  · rw [tallyAt_apply]
    by_cases h : d = mate e c
    · rw [if_pos h, if_pos ⟨by rw [h, mate_mate], rfl⟩]
    · rw [if_neg h, if_neg fun h' => h ((peer_eq _ d c).mp (kcell_inj h'.1).1.symm)]
  · intro e' _ hne
    rw [tallyAt_apply, if_neg fun h' => hne (congrArg Prod.snd (Option.some.inj (kcell_inj h'.1).2)).symm]
  · intro h; exact absurd (Finset.mem_filter.mpr ⟨Finset.mem_univ e, Nat.zero_le (num e)⟩) h

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  have h : ∀ d : Dev nD, O₀ d (barCell c) () = ((if d = peer 2 c then 1 else 0) + (if d = peer 1 c then 1 else 0)) + (if d = peer 0 c then 1 else 0) := fun d => by
    unfold O₀
    simp only [Pi.add_apply, Finsupp.add_apply, tal_bar, barTal_at, Nat.zero_add]
  rw [Finset.sum_congr rfl fun d _ => h d, Finset.sum_add_distrib, Finset.sum_add_distrib]
  simp only [Finset.sum_ite_eq', Finset.mem_univ, if_true]

theorem launch_recv (c : Dev nD) (e : Ex) :
    tallyOn (rCell c e) (launchCredit (Pipeline.owing O₀) 0 (rCell c e)) = (tallyAt (rCell c e) () (credit e) : CellTallies nD τ sig Unit) := by
  unfold tallyAt; refine congrArg _ (Finsupp.ext fun u => ?_); cases u
  rw [Pipeline.launchCredit_owing, Finsupp.single_eq_same]
  have h : ∀ d : Dev nD, O₀ d (rCell c e) () = if d = mate e c then credit e else 0 := fun d => by
    unfold O₀
    simp only [Pi.add_apply, Finsupp.add_apply, tal_recv, barTal_recv, Nat.add_zero]
  rw [Finset.sum_congr rfl fun d _ => h d]
  simp only [Finset.sum_ite_eq', Finset.mem_univ, if_true]

theorem creds (c : Dev nD) :
    (Pipeline.launchCred O₀ c : sProp 𝕄)
      ⊢ iprop(cred (tallyAt (barCell c) () 3) ∗ bigSep Finset.univ fun e : Ex => cred (tallyAt (rCell c e) () (credit e))) := by
  unfold Pipeline.launchCred
  rw [bigSep_univ_at _ (SemLoc.reg barS)]
  refine BI.sep_mono (Entails.of_eq (congrArg cred (launch_bar c))) ?_
  have hinj : Function.Injective fun e : Ex => semOf (some (true, e)) := fun e e' h => by
    exact congrArg Prod.snd (Option.some.inj (semOf_inj h))
  refine (bigSep_subset (t := Finset.univ.map ⟨fun e : Ex => semOf (some (true, e)), hinj⟩) ?_).trans ?_
  · intro sm hsm
    obtain ⟨e, -, rfl⟩ := Finset.mem_map.mp hsm
    exact Finset.mem_erase.mpr (And.intro (fun h => by cases semOf_inj (a₁ := some (true, e)) (a₂ := none) h) (Finset.mem_univ _))
  rw [bigSep_map]
  exact bigSep_mono fun e _ => Entails.of_eq (congrArg cred (launch_recv c e))

/-! ## The launch theorem's side conditions -/

theorem bigSep_due (c : Dev nD) :
    iprop(((bigSep Finset.univ fun e : Ex => dutyTok ER (sCell c e) 0 0) ∗ bigSep Finset.univ fun e : Ex => dutyTok ER (rCell (mate e c) e) 0 0)
        ∗ ((bigSep Finset.univ fun e : Ex => atPos ER (sCell c e) 0 ∅ 0) ∗ bigSep Finset.univ fun e : Ex => atPos ER (rCell c e) 0 ∅ 0)
        ∗ bigSep Finset.univ fun e : Ex => cred (tallyAt (rCell c e) () (credit e)))
      ⊢ (bigSep Finset.univ (due c) : sProp 𝕄) := by
  have h : ∀ e : Ex, iprop((dutyTok ER (sCell c e) 0 0 ∗ dutyTok ER (rCell (mate e c) e) 0 0)
      ∗ (atPos ER (sCell c e) 0 ∅ 0 ∗ atPos ER (rCell c e) 0 ∅ 0) ∗ cred (tallyAt (rCell c e) () (credit e))) ⊢ (due c e : sProp 𝕄) := fun e => by
    unfold due waiting
    iintro ⟨⟨H1, H2⟩, ⟨H3, H4⟩, H5⟩
    isplitl [H1]; · iexact H1
    isplitl [H2]; · iexact H2
    isplitl [H3]; · iexact H3
    isplitl [H4] <;> iassumption
  rw [← bigSep_sep', ← bigSep_sep', ← bigSep_sep', ← bigSep_sep']
  exact bigSep_mono fun e _ => h e

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begin' m ρ c ∗ emp) := by
  iintro ⟨-, Hlev, Hcr, -, HG⟩
  ihave Hc := (creds (F := F) c) $$ Hcr
  icases Hc with ⟨HB, HR⟩
  imodintro
  unfold begin' G' linear payToks ctx start barToks
  rw [bigSep_cix (fun ix => atPos ER (kcell c ix) 0 ∅ 0), bigSep_three]
  icases HG with ⟨%K, Hrec, ⟨HaB, HaS, HaR⟩, HtB, HtS, HtR⟩
  isplitl
  · iexists K
    isplitl [Hrec Hlev]; · isplitl [Hrec] <;> iassumption
    isplitl [HaB HB]; · isplitl [HaB] <;> iassumption
    isplitl [HtB]; · iexact HtB
    iapply (bigSep_due c)
    isplitl [HtS HtR]; · isplitl [HtS] <;> iassumption
    isplitl [HaS HaR]; · isplitl [HaS] <;> iassumption
    iexact HR
  · iempintro

/-- The buffer a transfer is sent from, and the one it lands in. -/
def sendBuf (s : Fin 4) (c : Fin 3) : Ref sig .tc :=
  ![![cc0_scratch0, cc0_scratch1, cc0_scratch2], ![cc0_scratch3, cc0_scratch4, cc0_scratch5],
    ![cc0_scratch6, cc0_scratch7, cc0_scratch8], ![cc0_scratch9, cc0_scratch10, cc0_scratch11]] s c
def recvBuf (s : Fin 4) (c : Fin 3) : Ref sig .tc :=
  ![![cc0_scratch12, cc0_scratch13, cc0_scratch14], ![cc0_scratch15, cc0_scratch16, cc0_scratch17],
    ![cc0_scratch18, cc0_scratch19, cc0_scratch20], ![cc0_scratch21, cc0_scratch22, cc0_scratch23]] s c
def refHeld (c : Dev nD) (b : Ref sig .tc) : sProp 𝕄 :=
  iprop(∃ f : Buf (Elt F) ((c : Thread nD τ).loc b), ((c : Thread nD τ).loc b) ↦{fullShare} f)
theorem refHeld_whole (c : Dev nD) (b : Ref sig .tc) :
    (iprop(∃ f : Buf (Elt F) ((c : Thread nD τ).loc b), ((c : Thread nD τ).loc b) ↦[(View.whole (sig := sig) (κ := .tc) b).set]{fullShare} f) : sProp 𝕄) = refHeld c b := by
  simp only [View.set_whole]; rfl
set_option maxHeartbeats 1000000 in
theorem send_held (d : Dev nD) (s : Fin 4) (c : Fin 3) : (bufHeld d c (sM s c) : sProp 𝕄) = refHeld d (sendBuf s c) := by
  fin_cases s <;> fin_cases c <;> exact refHeld_whole (F := F) d _
set_option maxHeartbeats 1000000 in
theorem recv_held (d : Dev nD) (s : Fin 4) (c : Fin 3) : (bufHeld d c (rM s c) : sProp 𝕄) = refHeld d (recvBuf s c) := by
  fin_cases s <;> fin_cases c <;> exact refHeld_whole (F := F) d _
theorem sep_assoc_eq (P Q R : sProp 𝕄) : iprop((P ∗ Q) ∗ R) = iprop(P ∗ Q ∗ R) := equiv_iff.mp ⟨BI.sep_assoc, BI.sep_assoc'⟩

theorem scratch_eq (c : Dev nD) : (Pipeline.scopedRest (Ix := Unit) (Name := ℕ) (U := UU) (Lvl := ℕ) (Val := Elt F) cfg0.spec c : sProp 𝕄) = scratch c := by
  refine (scopedRest0_eq c).trans ?_
  unfold scratch
  simp only [send_held, recv_held, bigSep_four, bigSep_three, sep_assoc_eq]
  rfl

theorem zeros_split (c : Dev nD) : (zeros c : sProp 𝕄) ⊢ iprop(unscopedSems0 c
    ∗ Pipeline.ownSems0 (Ix := Unit) (Name := ℕ) (U := UU) (Lvl := ℕ) (Val := Elt F) (τ := τ) osem c) := by
  unfold zeros
  rw [ownSems0_eq, unscopedSems0_eq, bigSep_sep']

theorem phi0_intro (c : Dev nD) :
    iprop(begin' m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  iintro ⟨Hr, Hz⟩
  ihave Hz' := (zeros_split (F := F) c) $$ Hz
  icases Hz' with ⟨Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have hk : lvK (kindOf (.dma ((spec0 w).sem s))) = 0 := by rw [kindOf_stage _ (stage_val w s)]; rfl
    rcases t with ⟨_ | _, ht⟩
    · exact mayWait_start c _ hk
    · have h := mayWait_low (F := F) c _ hk 108
      rw [tal_end] at h; exact h

/-! ## The run -/

/-- What device `c`'s array of window `w` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the mesh, from any memory with zero counters, every weakly fair run of @main ends, with the windows' arrays at the
    named contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := begin' m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds after the run what it held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.KernelIdeal.Ring

end
-- ==== Proof.KernelIdeal.Result.lean ====
/-
  The run read at @main's arrays: the arguments unchanged, the result what the devices computed, every counter at zero.
-/
module

public import proofs.«01_k».proof.Proof.KernelIdeal.Launch

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The result array after the run. -/
theorem finalA_out (c : Dev nD) : finalA m ρ c (7 : Fin 8) = outAt m ρ c := by
  have h : (win0_7.blk (0 : Fin 1)).view.read (Elt F) (finalA m ρ c (7 : Fin 8)) = outAt m ρ c := by
    unfold finalA
    rw [show cfg0.N = ((0 : Fin 1) : Fin cfg0.N).val + 1 from rfl, (dats m ρ 0 c).arrAt_succ (7 : Fin 8) (0 : Fin 1)]
    rw [show (cfg0.win (7 : Fin 8)).flush (0 : Fin 1) = true from by decide, if_pos rfl]
    exact View.read_write_univ _ _
  have hz : (fun a => (win0_7.index (0 : Fin 1)) a * main_v1.ty.shape.size a) = fun _ => 0 :=
    funext fun a => by fin_cases a <;> decide
  exact (Memref.read_access_unit_zero (Elt F) main_v1 hz (fun a => by fin_cases a <;> decide) _).symm.trans h

/-- What is staged of an argument is the argument's array. -/
theorem xv_eq (c : Dev nD) : xv m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem wiv_eq (c : Dev nD) : wiv m ρ c = fun
    | 0 => m ((c : Thread nD τ).loc main_arg1) | 1 => m ((c : Thread nD τ).loc main_arg3) | 2 => m ((c : Thread nD τ).loc main_arg5) := by
  funext l
  fin_cases l
  · exact Memref.read_access_unit_zero (Elt F) main_arg1 (off := fun a => (win0_1.index (0 : Fin 1)) a * main_arg1.ty.shape.size a)
      (funext fun a => by fin_cases a <;> decide) (fun a => by fin_cases a <;> decide) _
  · exact Memref.read_access_unit_zero (Elt F) main_arg3 (off := fun a => (win0_3.index (0 : Fin 1)) a * main_arg3.ty.shape.size a)
      (funext fun a => by fin_cases a <;> decide) (fun a => by fin_cases a <;> decide) _
  · exact Memref.read_access_unit_zero (Elt F) main_arg5 (off := fun a => (win0_5.index (0 : Fin 1)) a * main_arg5.ty.shape.size a)
      (funext fun a => by fin_cases a <;> decide) (fun a => by fin_cases a <;> decide) _
theorem wov_eq (c : Dev nD) : wov m ρ c = fun
    | 0 => m ((c : Thread nD τ).loc main_arg2) | 1 => m ((c : Thread nD τ).loc main_arg4) | 2 => m ((c : Thread nD τ).loc main_arg6) := by
  funext l
  fin_cases l
  · exact Memref.read_access_unit_zero (Elt F) main_arg2 (off := fun a => (win0_2.index (0 : Fin 1)) a * main_arg2.ty.shape.size a)
      (funext fun a => by fin_cases a <;> decide) (fun a => by fin_cases a <;> decide) _
  · exact Memref.read_access_unit_zero (Elt F) main_arg4 (off := fun a => (win0_4.index (0 : Fin 1)) a * main_arg4.ty.shape.size a)
      (funext fun a => by fin_cases a <;> decide) (fun a => by fin_cases a <;> decide) _
  · exact Memref.read_access_unit_zero (Elt F) main_arg6 (off := fun a => (win0_6.index (0 : Fin 1)) a * main_arg6.ty.shape.size a)
      (funext fun a => by fin_cases a <;> decide) (fun a => by fin_cases a <;> decide) _

/-- Every argument array of device `c` in `r` is as at the start. -/
def Unchanged (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem unchanged_of {r : PUnit × MemSt nD τ sig (Elt F)} (h : QC m ρ r) (c : Dev nD) : Unchanged m r c :=
  ⟨(h c (0 : Fin 8)).trans (finalA_in m ρ c (0 : Fin 8) rfl), (h c (1 : Fin 8)).trans (finalA_in m ρ c (1 : Fin 8) rfl),
    (h c (2 : Fin 8)).trans (finalA_in m ρ c (2 : Fin 8) rfl), (h c (3 : Fin 8)).trans (finalA_in m ρ c (3 : Fin 8) rfl),
    (h c (4 : Fin 8)).trans (finalA_in m ρ c (4 : Fin 8) rfl), (h c (5 : Fin 8)).trans (finalA_in m ρ c (5 : Fin 8) rfl),
    (h c (6 : Fin 8)).trans (finalA_in m ρ c (6 : Fin 8) rfl)⟩

/-- The run: results, arguments and counters. -/
theorem run : θ_run (defs (F := F)) (onTc (τ := τ) (main (F := F))) ⟨m, fun _ => 0, ρ⟩
    (fun r => (∀ c : Dev nD, r.2.mem ((c.tc : Thread nD τ).loc main_v1) = outAt m ρ c ∧ Unchanged m r c) ∧ r.2.sem = fun _ => 0) :=
  (θ_run _ _ _).mono (fun _ h => ⟨fun c => ⟨(h.1 c (7 : Fin 8)).trans (finalA_out m ρ c), unchanged_of m ρ h.1 c⟩, h.2⟩) (run_main m ρ)

end Cert.KernelIdeal.Ring

end
-- ==== Proof.Mlp.lean ====
/-
  One layer of the perceptron over whole arrays at the exact values, its hidden columns by blocks of 512, and the reference's
  result as three of them.
-/
module

public import proofs.«01_k».proof.Proof.Gen.ReferenceIdeal.Run
public import Idealize.ShloMosaic.Lib.StackMember
public import Idealize.ShloMosaic.Lib.MatmulPlain
public import Idealize.ShloMosaic.Lib.Layout
public import Idealize.ShloMosaic.Lib.Pipeline.Value

@[expose] public section

noncomputable section

namespace Cert.Mlp

open Idealize.ShloMosaic Idealize.ShloMosaic.TcCoe
open Idealize.ShloMosaic.ValueIdx (ix2)
open scoped BigOperators

abbrev SX : Shape := ⟨2, ![512, 256]⟩
abbrev SI : Shape := ⟨2, ![256, 4096]⟩
abbrev SO : Shape := ⟨2, ![4096, 256]⟩

/-- Hidden unit `k` at row `r`. -/
def hidden (X : SX.Idx → EReal) (Wi : SI.Idx → EReal) (r : Fin 512) (k : Fin 4096) : EReal :=
  max (∑ j : Fin 256, X (ix2 r j) * Wi (ix2 j k)) 0

/-- A layer: the hidden units, rectified, through the second weight. -/
def layer (X : SX.Idx → EReal) (Wi : SI.Idx → EReal) (Wo : SO.Idx → EReal) : SX.Idx → EReal :=
  fun i => ∑ k : Fin 4096, hidden X Wi (i 0) k * Wo (ix2 k (i 1))

/-- Hidden unit `k` of block `d`. -/
def unit (d : Fin 8) (k : Fin 512) : Fin 4096 := ⟨d.val * 512 + k.val, by have := d.isLt; have := k.isLt; omega⟩

/-- A sum over the hidden units is the sum over the blocks of the blocks' sums. -/
theorem sum_units (f : Fin 4096 → EReal) : ∑ k : Fin 4096, f k = ∑ d : Fin 8, ∑ k : Fin 512, f (unit d k) := by
  rw [← Fintype.sum_prod_type' fun d k => f (unit d k)]
  refine (Fintype.sum_equiv (finProdFinEquiv : Fin 8 × Fin 512 ≃ Fin (8 * 512)) _ _ fun p => congrArg f (Fin.ext ?_)).symm
  show p.1.val * 512 + p.2.val = p.2.val + 512 * p.1.val
  omega

theorem block_in (W : SI.Idx → EReal) (d : Fin 8) (j : Fin 256) (k : Fin 512) (h : Layout.Tiles ⟨2, ![256, 512]⟩ SI 1 8) :
    Layout.block ⟨2, ![256, 512]⟩ SI 1 8 d W h (ix2 j k) = W (ix2 j (unit d k)) := by
  refine congrArg W (funext fun a => Fin.ext ?_)
  rcases a with ⟨_ | _ | a, ha⟩
  · rfl
  · rfl
  · exact absurd ha (by simp)
theorem block_out (W : SO.Idx → EReal) (d : Fin 8) (k : Fin 512) (c : Fin 256) (h : Layout.Tiles ⟨2, ![512, 256]⟩ SO 0 8) :
    Layout.block ⟨2, ![512, 256]⟩ SO 0 8 d W h (ix2 k c) = W (ix2 (unit d k) c) := by
  refine congrArg W (funext fun a => Fin.ext ?_)
  rcases a with ⟨_ | _ | a, ha⟩
  · rfl
  · rfl
  · exact absurd ha (by simp)

open Cert.ReferenceIdeal Cert.ReferenceIdeal.Gen in
/-- The reference's layer. -/
theorem ref_layer (X : FVec Ideal Cert.ReferenceIdeal.S512x256 .f32) (Wi : FVec Ideal Cert.ReferenceIdeal.S256x4096 .f32) (Wo : FVec Ideal Cert.ReferenceIdeal.S4096x256 .f32) :
    Host.dotGeneral dot_S512x4096_S4096x256_S512x256_1_0_0_1_n_n none
      (maximumf (Host.dotGeneral dot_S512x256_S256x4096_S512x4096_1_0_0_1_n_n none X Wi)
        (broadcastInDim S512x4096 ![] bcast_S_S512x4096 (constant (F := Ideal) S_ .f32 0x00000000#32))) Wo = layer X Wi Wo := by
  funext i
  have e : i = ix2 (n0 := 512) (n1 := 256) (i 0) (i 1) := ValueIdx.eq_ix2 (n0 := 512) (n1 := 256) i
  rw [e]
  refine (Idealize.ShloMosaic.StackMember.dotGeneral_plain_apply (m := 512) (k := 4096) (n := 256) none _ Wo (i 0) (i 1)).trans ?_
  refine Finset.sum_congr rfl fun k _ => congrArg (· * _) ?_
  show max (Host.dotGeneral (DotDims.plain 512 256 4096) none X Wi (ix2 (i 0) k)) (Ideal.ofBits .f32 0x00000000#32) = _
  rw [Idealize.ShloMosaic.StackMember.dotGeneral_plain_apply (m := 512) (k := 256) (n := 4096) none X Wi (i 0) k, Ideal.ofBits_zero_f32]
  rfl

end Cert.Mlp

end
-- ==== Proof.KernelIdeal.Value.lean ====
/-
  What the devices compute, at the exact values: the three rounds of the exchange add the eight devices' parts, the parts are
  the hidden units by blocks, and so what enters each layer is, on every device, the whole layers' value.
-/
module

public import proofs.«01_k».proof.Proof.KernelIdeal.Result
public import proofs.«01_k».proof.Proof.Mlp

@[expose] public section

noncomputable section

namespace Cert.KernelIdeal.Ring

open Cert.KernelIdeal Cert.KernelIdeal.Gen
open Idealize.ShloMosaic Idealize.ShloMosaic.TcCoe
open Cert.Mlp (SX SI SO hidden layer unit)
open scoped BigOperators

abbrev at2 {n0 n1 : ℕ} (a : Fin n0) (b : Fin n1) : (⟨2, ![n0, n1]⟩ : Shape).Idx := ValueIdx.ix2 a b

/-! ## The exchange -/

/-- The eight devices a device's sum reaches in three rounds. -/
theorem reach : ∀ (c : Fin 3) (d : Dev nD),
    (Finset.univ : Finset (Dev nD)).val
      = ↑[d, peer (turn 0 c) d, peer (turn 1 c) d, peer (turn 0 c) (peer (turn 1 c) d),
          peer (turn 2 c) d, peer (turn 0 c) (peer (turn 2 c) d), peer (turn 1 c) (peer (turn 2 c) d),
          peer (turn 0 c) (peer (turn 1 c) (peer (turn 2 c) d))] := by decide

/-- Three rounds add every device's chunk. -/
theorem rounds_sum (P : Field Ideal) (d : Dev nD) (s : Fin 4) (c : Fin 3) (j : (SC c).Idx) :
    (rounds P 3 d s c j : EReal) = ∑ d' : Dev nD, (P d' s c j : EReal) := by
  have h : (∑ d' : Dev nD, (P d' s c j : EReal)) = ((Finset.univ : Finset (Dev nD)).val.map fun d' => (P d' s c j : EReal)).sum := rfl
  rw [h, reach c d]
  simp only [Multiset.map_coe, Multiset.sum_coe, List.map_cons, List.map_nil, List.sum_cons, List.sum_nil, add_zero]
  have hp : ∀ k k' : Fin 3, peer k (peer k' d) = peer k' (peer k d) := by revert d; decide
  have hp3 : ∀ k k' k'' : Fin 3, peer k (peer k' (peer k'' d)) = peer k'' (peer k' (peer k d)) := by revert d; decide
  show ((P d s c j : EReal) + P (peer (turn 0 c) d) s c j
      + (P (peer (turn 1 c) d) s c j + P (peer (turn 0 c) (peer (turn 1 c) d)) s c j))
      + ((P (peer (turn 2 c) d) s c j + P (peer (turn 0 c) (peer (turn 2 c) d)) s c j)
      + (P (peer (turn 1 c) (peer (turn 2 c) d)) s c j + P (peer (turn 0 c) (peer (turn 1 c) (peer (turn 2 c) d))) s c j)) = _
  simp only [add_assoc]

/-! ## A device's part of a layer -/

theorem layerVal_at (x : FVec Ideal S128x256 .f32) (wi : Vec Ideal S256x512 .f32) (wo : Vec Ideal S512x256 .f32) (r : Fin 128) (c : Fin 256) :
    (layerVal x wi wo (at2 r c) : EReal)
      = ∑ k : Fin 512, max (∑ j : Fin 256, (x (at2 r j) : EReal) * wi (at2 j k)) 0 * wo (at2 k c) := by
  unfold layerVal
  rw [shapeCast_self, shapeCast_self]
  refine (Ideal.matmul_plain_apply (M := 128) (K := 512) (N := 256) none _ wo _ r c).trans ?_
  refine ((congrArg (· + _) Ideal.ofBits_zero_f32).trans (zero_add _)).trans (Finset.sum_congr rfl fun k _ => congrArg (· * _) ?_)
  refine congrArg₂ max ?_ Ideal.ofBits_zero_f32
  refine (Ideal.matmul_plain_apply (M := 128) (K := 256) (N := 512) none x wi _ r k).trans ?_
  exact (congrArg (· + _) Ideal.ofBits_zero_f32).trans (zero_add _)

theorem cut_at (a : FVec Ideal S128x256 .f32) (c : Fin 3) (j : (SC c).Idx) (r : Fin 128) (k : Fin 256) (hr : r.val = offs c + (j 0).val) (hk : k.val = (j 1).val) :
    cut a c j = a (at2 r k) := by
  unfold cut
  refine extractStridedSlice_apply ![offs c, 0] a (slicesC c) j (at2 r k) fun b => ?_
  rcases b with ⟨_ | _ | b, hb⟩
  · exact hr
  · exact hk.trans (Nat.zero_add _).symm
  · exact absurd hb (by simp)

/-- The chunk a strip's row is in. -/
theorem chunk_of (r : Fin 128) : ∃ c : Fin 3, offs c ≤ r.val ∧ r.val < offs c + rows c := by
  have := r.isLt
  rcases lt_or_ge r.val 48 with h | h
  · exact ⟨0, Nat.zero_le _, h⟩
  rcases lt_or_ge r.val 88 with h' | h'
  · exact ⟨1, h, h'⟩
  · exact ⟨2, h', this⟩

/-- Row `r` of strip `s`. -/
def row (s : Fin 4) (r : Fin 128) : Fin 512 := ⟨128 * s.val + r.val, by have := s.isLt; have := r.isLt; omega⟩

theorem strip_at (x : Vec Ideal S512x256 .f32) (s : Fin 4) (r : Fin 128) (c : Fin 256) : strip x s (at2 r c) = x (at2 (row s r) c) := by
  unfold strip
  refine (congrFun (shapeCast_self (s := S128x256) _ _) _).trans ?_
  refine congrArg x (funext fun a => Fin.ext ?_)
  rcases a with ⟨_ | _ | a, ha⟩
  · show 128 * s.val + 1 * r.val = 128 * s.val + r.val; omega
  · show 0 + 1 * c.val = c.val; omega
  · have h : a + 2 < 2 := ha
    omega

/-! ## The layers -/

variable (m : (ℓ : Loc nD τ sig) → Buf (Elt Ideal) ℓ) (ρ : Dev nD → PrngReg)

/-- What enters layer `n`, whole. -/
def whole (X : SX.Idx → EReal) (Wi : Fin 3 → SI.Idx → EReal) (Wo : Fin 3 → SO.Idx → EReal) : ℕ → SX.Idx → EReal
  | 0 => X
  | n + 1 => layer (whole X Wi Wo n) (Wi (tri n)) (Wo (tri n))

variable (X : SX.Idx → EReal) (Wi : Fin 3 → SI.Idx → EReal) (Wo : Fin 3 → SO.Idx → EReal)

/-- Every device holds `X` and its blocks of the weights. -/
def Given : Prop := ∀ d : Dev nD, xv m ρ d = X
  ∧ (∀ (l : Fin 3) (j : Fin 256) (k : Fin 512), wiv m ρ d l (at2 j k) = Wi l (at2 j (unit d k)))
  ∧ (∀ (l : Fin 3) (k : Fin 512) (c : Fin 256), wov m ρ d l (at2 k c) = Wo l (at2 (unit d k) c))

theorem layers_at (h : Given m ρ X Wi Wo) : ∀ (n : ℕ) (d : Dev nD) (s : Fin 4) (r : Fin 128) (c : Fin 256),
    layers m ρ n d s (at2 r c) = whole X Wi Wo n (at2 (row s r) c)
  | 0, d, s, r, c => by
    show strip (xv m ρ d) s (at2 r c) = X _
    rw [(h d).1, strip_at]
  | n + 1, d, s, r, c => by
    obtain ⟨q, h1, h2⟩ := chunk_of r
    have e : layers m ρ (n + 1) d s (at2 r c)
        = rounds (parts m ρ (tri n) (layers m ρ n)) 3 d s q (at2 (⟨r.val - offs q, by omega⟩ : Fin (rows q)) c) :=
      glue_at _ q _ _ (show r.val = offs q + (r.val - offs q) by omega) rfl
    rw [e]
    refine (rounds_sum _ d s q _).trans ?_
    show _ = ∑ k : Fin 4096, hidden (whole X Wi Wo n) (Wi (tri n)) (row s r) k * Wo (tri n) (at2 k c)
    rw [Cert.Mlp.sum_units]
    refine Finset.sum_congr rfl fun d' _ => ?_
    refine (cut_at _ q _ r c (show r.val = offs q + (r.val - offs q) by omega) rfl).trans ?_
    refine (layerVal_at _ _ _ r c).trans (Finset.sum_congr rfl fun k _ => ?_)
    rw [(h d').2.2 (tri n) k c]
    refine congrArg (· * _) (congrArg (max · 0) (Finset.sum_congr rfl fun j _ => ?_))
    rw [(h d').2.1 (tri n) j k, layers_at h n d' s r j]

/-- The result on every device is the whole layers'. -/
theorem outAt_eq (h : Given m ρ X Wi Wo) (d : Dev nD) : outAt m ρ d = whole X Wi Wo 3 := by
  funext i
  have hi : ((i : SX.Idx) 0).val < 512 := ((i : SX.Idx) 0).isLt
  refine (layers_at m ρ X Wi Wo h 3 d ⟨((i : SX.Idx) 0).val / 128, by omega⟩ ⟨((i : SX.Idx) 0).val % 128, Nat.mod_lt _ (by decide)⟩ ((i : SX.Idx) 1)).trans ?_
  refine congrArg (whole X Wi Wo 3) (Eq.trans ?_ (ValueIdx.eq_ix2 (n0 := 512) (n1 := 256) i).symm)
  refine congrArg (fun a : Fin 512 => at2 a ((i : SX.Idx) 1)) (Fin.ext ?_)
  show 128 * (((i : SX.Idx) 0).val / 128) + ((i : SX.Idx) 0).val % 128 = _
  omega

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.Mlp (SX SI SO)

/-- The kernel's run leaves its arguments and every counter as they were. -/
theorem frame_kernel : Cert.quiescent_Kernel (hKernel := Cert.Kernel.Gen.facts) := fun m ρ _ =>
  (θ_run _ _ _).mono (fun _ h => ⟨fun c => (h.1 c).2, h.2⟩) (Cert.Kernel.Ring.run (F := Bits) m ρ)

/-- So at the exact values, -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Ring.run (F := Ideal) m ρ)

/-- and so the reference's, which has no semaphore. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

section
variable (m' : (ℓ : Loc Cert.ReferenceIdeal.nD Cert.ReferenceIdeal.τ Cert.ReferenceIdeal.sig) → Buf (Elt Ideal) ℓ)

/-- The reference's arrays: `x`, and the two weights of each layer. -/
def refX : SX.Idx → EReal := m' (((0 : Dev Cert.ReferenceIdeal.nD).tc : Thread Cert.ReferenceIdeal.nD Cert.ReferenceIdeal.τ).loc Cert.ReferenceIdeal.main_arg0)
def refI : Fin 3 → SI.Idx → EReal
  | 0 => m' (((0 : Dev Cert.ReferenceIdeal.nD).tc : Thread Cert.ReferenceIdeal.nD Cert.ReferenceIdeal.τ).loc Cert.ReferenceIdeal.main_arg1)
  | 1 => m' (((0 : Dev Cert.ReferenceIdeal.nD).tc : Thread Cert.ReferenceIdeal.nD Cert.ReferenceIdeal.τ).loc Cert.ReferenceIdeal.main_arg3)
  | 2 => m' (((0 : Dev Cert.ReferenceIdeal.nD).tc : Thread Cert.ReferenceIdeal.nD Cert.ReferenceIdeal.τ).loc Cert.ReferenceIdeal.main_arg5)
def refO : Fin 3 → SO.Idx → EReal
  | 0 => m' (((0 : Dev Cert.ReferenceIdeal.nD).tc : Thread Cert.ReferenceIdeal.nD Cert.ReferenceIdeal.τ).loc Cert.ReferenceIdeal.main_arg2)
  | 1 => m' (((0 : Dev Cert.ReferenceIdeal.nD).tc : Thread Cert.ReferenceIdeal.nD Cert.ReferenceIdeal.τ).loc Cert.ReferenceIdeal.main_arg4)
  | 2 => m' (((0 : Dev Cert.ReferenceIdeal.nD).tc : Thread Cert.ReferenceIdeal.nD Cert.ReferenceIdeal.τ).loc Cert.ReferenceIdeal.main_arg6)

/-- Three layers of the reference's arrays. -/
def result : SX.Idx → EReal := Cert.KernelIdeal.Ring.whole (refX m') (refI m') (refO m') 3
end

/-- The kernel on its mesh and the reference on its one device end with the same result. -/
theorem value : Cert.algebraic_KernelIdeal_ReferenceIdeal (hKernelIdeal := Cert.KernelIdeal.Gen.facts) (hReferenceIdeal := Cert.ReferenceIdeal.Gen.facts) := by
  intro m ρ m' ρ' _ hm
  have hg : Cert.KernelIdeal.Ring.Given m ρ (refX m') (refI m') (refO m') := by
    intro d
    obtain ⟨h0, h1, h2, h3, h4, h5, h6⟩ := hm d
    refine ⟨(Cert.KernelIdeal.Ring.xv_eq m ρ d).trans h0, fun l j k => ?_, fun l k c => ?_⟩
    · rw [Cert.KernelIdeal.Ring.wiv_eq]
      fin_cases l
      · exact (congrFun h1 _).trans (Cert.Mlp.block_in _ d j k _)
      · exact (congrFun h3 _).trans (Cert.Mlp.block_in _ d j k _)
      · exact (congrFun h5 _).trans (Cert.Mlp.block_in _ d j k _)
    · rw [Cert.KernelIdeal.Ring.wov_eq]
      fin_cases l
      · exact (congrFun h2 _).trans (Cert.Mlp.block_out _ d k c _)
      · exact (congrFun h4 _).trans (Cert.Mlp.block_out _ d k c _)
      · exact (congrFun h6 _).trans (Cert.Mlp.block_out _ d k c _)
  refine ⟨result m', ?_, ?_⟩
  · exact (θ_run _ _ _).mono (fun _ h c => ⟨(h.1 c).1.trans (Cert.KernelIdeal.Ring.outAt_eq m ρ _ _ _ hg c), (h.1 c).2⟩)
      (Cert.KernelIdeal.Ring.run (F := Ideal) m ρ)
  · refine (θ_run _ _ _).mono (fun r h => ⟨(h 0).1.trans ?_, (h 0).2⟩) (Cert.ReferenceIdeal.Value.run (F := Ideal) m' ρ')
    rw [Cert.Mlp.ref_layer, Cert.Mlp.ref_layer, Cert.Mlp.ref_layer]
    rfl

theorem claim : Cert.Claim :=
  ⟨Cert.Kernel.Gen.facts, Cert.KernelIdeal.Gen.facts, Cert.ReferenceIdeal.Gen.facts, frame_kernel, frame_ideal, frame_reference, trivial, value⟩

end Cert.Proof

end
